-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .f32) (main_arg1 : FVec F S256x64 .f32) (main_arg2 : IVec S512x1 32) (main_arg3 : FVec F S4x256x512 .f32) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 64#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Pre_routed_ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S_ : Shape := ⟨0, ![]⟩

class Facts : Prop where
  bcast_S_S512x1 : S_.BroadcastsInDim S512x1 (![] : Fin 0 → Fin S512x1.rank)
  reducesTo_S512x1_S_d0_1 : S512x1.ReducesTo [0, 1] S_
  h_S_ : 0 < S_.numel

variable [Facts]

def fn {F : FTy → Type} [FloatOps F] (main_arg0 : FVec F S512x256 .f32) (main_arg1 : FVec F S256x64 .f32) (main_arg2 : IVec S512x1 32) (main_arg3 : FVec F S64x256x512 .f32) : IVec S_ 1 :=
  let main_c : IVec S_ 32 := constantI S_ 32 0#32
  let main_v0 : IVec S512x1 32 := broadcastInDim S512x1 ![] bcast_S_S512x1 main_c
  let main_v1 : IVec S512x1 1 := cmpi .sge main_arg2 main_v0
  let main_c_0 : IVec S_ 32 := constantI S_ 32 64#32
  let main_v2 : IVec S512x1 32 := broadcastInDim S512x1 ![] bcast_S_S512x1 main_c_0
  let main_v3 : IVec S512x1 1 := cmpi .slt main_arg2 main_v2
  let main_v4 : IVec S512x1 1 := andi main_v1 main_v3
  let main_c_1 : IVec S_ 1 := constantI S_ 1 1#1
  let main_v5 : IVec S_ 1 := (fun x v => Host.reduce IntOp.andi x v reducesTo_S512x1_S_d0_1 h_S_) main_v4 main_c_1
  main_v5
-- ==== Kernel.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S32x512 : Shape := ⟨2, ![32, 512]⟩
abbrev S16x32x512 : Shape := ⟨3, ![16, 32, 512]⟩
abbrev S16 : Shape := ⟨1, ![16]⟩
abbrev S_ : Shape := ⟨0, ![]⟩
abbrev S512x64 : Shape := ⟨2, ![512, 64]⟩
abbrev S512x512 : Shape := ⟨2, ![512, 512]⟩
abbrev S512 : Shape := ⟨1, ![512]⟩
abbrev S512x24 : Shape := ⟨2, ![512, 24]⟩
abbrev S512x6 : Shape := ⟨2, ![512, 6]⟩
abbrev S6x256 : Shape := ⟨2, ![6, 256]⟩
abbrev S1x256x512 : Shape := ⟨3, ![1, 256, 512]⟩
abbrev S256x512 : Shape := ⟨2, ![256, 512]⟩
abbrev S6x512 : Shape := ⟨2, ![6, 512]⟩
abbrev S1x6x512 : Shape := ⟨3, ![1, 6, 512]⟩
abbrev S1 : Shape := ⟨1, ![1]⟩
abbrev S1x24x512 : Shape := ⟨3, ![1, 24, 512]⟩
abbrev S24x512 : Shape := ⟨2, ![24, 512]⟩
abbrev S32x1 : Shape := ⟨2, ![32, 1]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S4x256x512, .f32⟩
  | .hbm, ⟨4, _⟩ => ⟨S32x512, .f32⟩
  | .local _ .vmem, ⟨0, _⟩ => ⟨S512x256, .f32⟩
  | .local _ .vmem, ⟨1, _⟩ => ⟨S512x1, .i32⟩
  | .local _ .vmem, ⟨2, _⟩ => ⟨S4x256x512, .f32⟩
  | .local _ .vmem, ⟨3, _⟩ => ⟨S32x512, .f32⟩
  | .local _ .vmem, ⟨4, _⟩ => ⟨S16x32x512, .bf16⟩
  | .local _ .vmem, ⟨5, _⟩ => ⟨S512x1, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v8 : BitVec 1 := Scalar.cmpi .ne v2 c0_i32
  let v9 : BitVec 32 := Scalar.extui v8
  let c0_i32_2 : BitVec 32 := 0#32
  let v10 : BitVec 1 := Scalar.cmpi .ne v9 c0_i32_2
  v10

def k0_dev1 : Nat :=
  let c0_i32_190 : BitVec 32 := 0#32
  let c0_i32_188 : BitVec 32 := 0#32
  let c1_i32_189 : BitVec 32 := 1#32
  let v384 : BitVec 32 := Scalar.muli c0_i32_188 c1_i32_189
  let v385 : BitVec 32 := Scalar.addi c0_i32_190 v384
  v385.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v11 : BitVec 1 := Scalar.cmpi .ne v2 c1_i32_3
  let v12 : BitVec 32 := Scalar.extui v11
  let c0_i32_4 : BitVec 32 := 0#32
  let v13 : BitVec 1 := Scalar.cmpi .ne v12 c0_i32_4
  v13

def k0_dev2 : Nat :=
  let c0_i32_190 : BitVec 32 := 0#32
  let c1_i32_188 : BitVec 32 := 1#32
  let c1_i32_189 : BitVec 32 := 1#32
  let v384 : BitVec 32 := Scalar.muli c1_i32_188 c1_i32_189
  let v385 : BitVec 32 := Scalar.addi c0_i32_190 v384
  v385.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v14 : BitVec 1 := Scalar.cmpi .ne v2 c2_i32
  let v15 : BitVec 32 := Scalar.extui v14
  let c0_i32_5 : BitVec 32 := 0#32
  let v16 : BitVec 1 := Scalar.cmpi .ne v15 c0_i32_5
  v16

def k0_dev3 : Nat :=
  let c0_i32_190 : BitVec 32 := 0#32
  let c2_i32_188 : BitVec 32 := 2#32
  let c1_i32_189 : BitVec 32 := 1#32
  let v384 : BitVec 32 := Scalar.muli c2_i32_188 c1_i32_189
  let v385 : BitVec 32 := Scalar.addi c0_i32_190 v384
  v385.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v17 : BitVec 1 := Scalar.cmpi .ne v2 c3_i32
  let v18 : BitVec 32 := Scalar.extui v17
  let c0_i32_6 : BitVec 32 := 0#32
  let v19 : BitVec 1 := Scalar.cmpi .ne v18 c0_i32_6
  v19

def k0_dev4 : Nat :=
  let c0_i32_190 : BitVec 32 := 0#32
  let c3_i32_188 : BitVec 32 := 3#32
  let c1_i32_189 : BitVec 32 := 1#32
  let v384 : BitVec 32 := Scalar.muli c3_i32_188 c1_i32_189
  let v385 : BitVec 32 := Scalar.addi c0_i32_190 v384
  v385.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v20 : BitVec 1 := Scalar.cmpi .ne v2 c4_i32
  let v21 : BitVec 32 := Scalar.extui v20
  let c0_i32_7 : BitVec 32 := 0#32
  let v22 : BitVec 1 := Scalar.cmpi .ne v21 c0_i32_7
  v22

def k0_dev5 : Nat :=
  let c0_i32_190 : BitVec 32 := 0#32
  let c4_i32_188 : BitVec 32 := 4#32
  let c1_i32_189 : BitVec 32 := 1#32
  let v384 : BitVec 32 := Scalar.muli c4_i32_188 c1_i32_189
  let v385 : BitVec 32 := Scalar.addi c0_i32_190 v384
  v385.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v23 : BitVec 1 := Scalar.cmpi .ne v2 c5_i32
  let v24 : BitVec 32 := Scalar.extui v23
  let c0_i32_8 : BitVec 32 := 0#32
  let v25 : BitVec 1 := Scalar.cmpi .ne v24 c0_i32_8
  v25

def k0_dev6 : Nat :=
  let c0_i32_190 : BitVec 32 := 0#32
  let c5_i32_188 : BitVec 32 := 5#32
  let c1_i32_189 : BitVec 32 := 1#32
  let v384 : BitVec 32 := Scalar.muli c5_i32_188 c1_i32_189
  let v385 : BitVec 32 := Scalar.addi c0_i32_190 v384
  v385.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v26 : BitVec 1 := Scalar.cmpi .ne v2 c6_i32
  let v27 : BitVec 32 := Scalar.extui v26
  let c0_i32_9 : BitVec 32 := 0#32
  let v28 : BitVec 1 := Scalar.cmpi .ne v27 c0_i32_9
  v28

def k0_dev7 : Nat :=
  let c0_i32_190 : BitVec 32 := 0#32
  let c6_i32_188 : BitVec 32 := 6#32
  let c1_i32_189 : BitVec 32 := 1#32
  let v384 : BitVec 32 := Scalar.muli c6_i32_188 c1_i32_189
  let v385 : BitVec 32 := Scalar.addi c0_i32_190 v384
  v385.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v29 : BitVec 1 := Scalar.cmpi .ne v2 c7_i32
  let v30 : BitVec 32 := Scalar.extui v29
  let c0_i32_10 : BitVec 32 := 0#32
  let v31 : BitVec 1 := Scalar.cmpi .ne v30 c0_i32_10
  v31

def k0_dev8 : Nat :=
  let c0_i32_190 : BitVec 32 := 0#32
  let c7_i32_188 : BitVec 32 := 7#32
  let c1_i32_189 : BitVec 32 := 1#32
  let v384 : BitVec 32 := Scalar.muli c7_i32_188 c1_i32_189
  let v385 : BitVec 32 := Scalar.addi c0_i32_190 v384
  v385.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 1 := Scalar.cmpi .ne v2 c8_i32
  let v33 : BitVec 32 := Scalar.extui v32
  let c0_i32_11 : BitVec 32 := 0#32
  let v34 : BitVec 1 := Scalar.cmpi .ne v33 c0_i32_11
  v34

def k0_dev9 : Nat :=
  let c0_i32_190 : BitVec 32 := 0#32
  let c8_i32_188 : BitVec 32 := 8#32
  let c1_i32_189 : BitVec 32 := 1#32
  let v384 : BitVec 32 := Scalar.muli c8_i32_188 c1_i32_189
  let v385 : BitVec 32 := Scalar.addi c0_i32_190 v384
  v385.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v35 : BitVec 1 := Scalar.cmpi .ne v2 c9_i32
  let v36 : BitVec 32 := Scalar.extui v35
  let c0_i32_12 : BitVec 32 := 0#32
  let v37 : BitVec 1 := Scalar.cmpi .ne v36 c0_i32_12
  v37

def k0_dev10 : Nat :=
  let c0_i32_190 : BitVec 32 := 0#32
  let c9_i32_188 : BitVec 32 := 9#32
  let c1_i32_189 : BitVec 32 := 1#32
  let v384 : BitVec 32 := Scalar.muli c9_i32_188 c1_i32_189
  let v385 : BitVec 32 := Scalar.addi c0_i32_190 v384
  v385.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v38 : BitVec 1 := Scalar.cmpi .ne v2 c10_i32
  let v39 : BitVec 32 := Scalar.extui v38
  let c0_i32_13 : BitVec 32 := 0#32
  let v40 : BitVec 1 := Scalar.cmpi .ne v39 c0_i32_13
  v40

def k0_dev11 : Nat :=
  let c0_i32_190 : BitVec 32 := 0#32
  let c10_i32_188 : BitVec 32 := 10#32
  let c1_i32_189 : BitVec 32 := 1#32
  let v384 : BitVec 32 := Scalar.muli c10_i32_188 c1_i32_189
  let v385 : BitVec 32 := Scalar.addi c0_i32_190 v384
  v385.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v41 : BitVec 1 := Scalar.cmpi .ne v2 c11_i32
  let v42 : BitVec 32 := Scalar.extui v41
  let c0_i32_14 : BitVec 32 := 0#32
  let v43 : BitVec 1 := Scalar.cmpi .ne v42 c0_i32_14
  v43

def k0_dev12 : Nat :=
  let c0_i32_190 : BitVec 32 := 0#32
  let c11_i32_188 : BitVec 32 := 11#32
  let c1_i32_189 : BitVec 32 := 1#32
  let v384 : BitVec 32 := Scalar.muli c11_i32_188 c1_i32_189
  let v385 : BitVec 32 := Scalar.addi c0_i32_190 v384
  v385.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v44 : BitVec 1 := Scalar.cmpi .ne v2 c12_i32
  let v45 : BitVec 32 := Scalar.extui v44
  let c0_i32_15 : BitVec 32 := 0#32
  let v46 : BitVec 1 := Scalar.cmpi .ne v45 c0_i32_15
  v46

def k0_dev13 : Nat :=
  let c0_i32_190 : BitVec 32 := 0#32
  let c12_i32_188 : BitVec 32 := 12#32
  let c1_i32_189 : BitVec 32 := 1#32
  let v384 : BitVec 32 := Scalar.muli c12_i32_188 c1_i32_189
  let v385 : BitVec 32 := Scalar.addi c0_i32_190 v384
  v385.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v47 : BitVec 1 := Scalar.cmpi .ne v2 c13_i32
  let v48 : BitVec 32 := Scalar.extui v47
  let c0_i32_16 : BitVec 32 := 0#32
  let v49 : BitVec 1 := Scalar.cmpi .ne v48 c0_i32_16
  v49

def k0_dev14 : Nat :=
  let c0_i32_190 : BitVec 32 := 0#32
  let c13_i32_188 : BitVec 32 := 13#32
  let c1_i32_189 : BitVec 32 := 1#32
  let v384 : BitVec 32 := Scalar.muli c13_i32_188 c1_i32_189
  let v385 : BitVec 32 := Scalar.addi c0_i32_190 v384
  v385.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v50 : BitVec 1 := Scalar.cmpi .ne v2 c14_i32
  let v51 : BitVec 32 := Scalar.extui v50
  let c0_i32_17 : BitVec 32 := 0#32
  let v52 : BitVec 1 := Scalar.cmpi .ne v51 c0_i32_17
  v52

def k0_dev15 : Nat :=
  let c0_i32_190 : BitVec 32 := 0#32
  let c14_i32_188 : BitVec 32 := 14#32
  let c1_i32_189 : BitVec 32 := 1#32
  let v384 : BitVec 32 := Scalar.muli c14_i32_188 c1_i32_189
  let v385 : BitVec 32 := Scalar.addi c0_i32_190 v384
  v385.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v53 : BitVec 1 := Scalar.cmpi .ne v2 c15_i32
  let v54 : BitVec 32 := Scalar.extui v53
  let c0_i32_18 : BitVec 32 := 0#32
  let v55 : BitVec 1 := Scalar.cmpi .ne v54 c0_i32_18
  v55

def k0_dev16 : Nat :=
  let c0_i32_190 : BitVec 32 := 0#32
  let c15_i32_188 : BitVec 32 := 15#32
  let c1_i32_189 : BitVec 32 := 1#32
  let v384 : BitVec 32 := Scalar.muli c15_i32_188 c1_i32_189
  let v385 : BitVec 32 := Scalar.addi c0_i32_190 v384
  v385.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v137 : Index := Scalar.indexCast v2
  let c0_48 : Index := 0#32
  let c0_49 : Index := 0#32
  ![v137.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v147 : Index := Scalar.indexCast v2
  let c6 : Index := 6#32
  let c0_54 : Index := 0#32
  ![v147.toNat, 6, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v157 : Index := Scalar.indexCast v2
  let c12 : Index := 12#32
  let c0_59 : Index := 0#32
  ![v157.toNat, 12, 0]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v167 : Index := Scalar.indexCast v2
  let c18 : Index := 18#32
  let c0_64 : Index := 0#32
  ![v167.toNat, 18, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_65 : BitVec 32 := 0#32
  let v171 : BitVec 1 := Scalar.cmpi .ne v2 c0_i32_65
  let v172 : BitVec 32 := Scalar.extui v171
  let c0_i32_66 : BitVec 32 := 0#32
  let v173 : BitVec 1 := Scalar.cmpi .ne v172 c0_i32_66
  v173

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev17 : Nat :=
  let c0_i32_190 : BitVec 32 := 0#32
  let c0_i32_188 : BitVec 32 := 0#32
  let c1_i32_189 : BitVec 32 := 1#32
  let v384 : BitVec 32 := Scalar.muli c0_i32_188 c1_i32_189
  let v385 : BitVec 32 := Scalar.addi c0_i32_190 v384
  v385.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_67 : BitVec 32 := 1#32
  let v174 : BitVec 1 := Scalar.cmpi .ne v2 c1_i32_67
  let v175 : BitVec 32 := Scalar.extui v174
  let c0_i32_68 : BitVec 32 := 0#32
  let v176 : BitVec 1 := Scalar.cmpi .ne v175 c0_i32_68
  v176

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev18 : Nat :=
  let c0_i32_190 : BitVec 32 := 0#32
  let c1_i32_188 : BitVec 32 := 1#32
  let c1_i32_189 : BitVec 32 := 1#32
  let v384 : BitVec 32 := Scalar.muli c1_i32_188 c1_i32_189
  let v385 : BitVec 32 := Scalar.addi c0_i32_190 v384
  v385.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_69 : BitVec 32 := 2#32
  let v177 : BitVec 1 := Scalar.cmpi .ne v2 c2_i32_69
  let v178 : BitVec 32 := Scalar.extui v177
  let c0_i32_70 : BitVec 32 := 0#32
  let v179 : BitVec 1 := Scalar.cmpi .ne v178 c0_i32_70
  v179

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev19 : Nat :=
  let c0_i32_190 : BitVec 32 := 0#32
  let c2_i32_188 : BitVec 32 := 2#32
  let c1_i32_189 : BitVec 32 := 1#32
  let v384 : BitVec 32 := Scalar.muli c2_i32_188 c1_i32_189
  let v385 : BitVec 32 := Scalar.addi c0_i32_190 v384
  v385.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_71 : BitVec 32 := 3#32
  let v180 : BitVec 1 := Scalar.cmpi .ne v2 c3_i32_71
  let v181 : BitVec 32 := Scalar.extui v180
  let c0_i32_72 : BitVec 32 := 0#32
  let v182 : BitVec 1 := Scalar.cmpi .ne v181 c0_i32_72
  v182

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev20 : Nat :=
  let c0_i32_190 : BitVec 32 := 0#32
  let c3_i32_188 : BitVec 32 := 3#32
  let c1_i32_189 : BitVec 32 := 1#32
  let v384 : BitVec 32 := Scalar.muli c3_i32_188 c1_i32_189
  let v385 : BitVec 32 := Scalar.addi c0_i32_190 v384
  v385.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_73 : BitVec 32 := 4#32
  let v183 : BitVec 1 := Scalar.cmpi .ne v2 c4_i32_73
  let v184 : BitVec 32 := Scalar.extui v183
  let c0_i32_74 : BitVec 32 := 0#32
  let v185 : BitVec 1 := Scalar.cmpi .ne v184 c0_i32_74
  v185

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev21 : Nat :=
  let c0_i32_190 : BitVec 32 := 0#32
  let c4_i32_188 : BitVec 32 := 4#32
  let c1_i32_189 : BitVec 32 := 1#32
  let v384 : BitVec 32 := Scalar.muli c4_i32_188 c1_i32_189
  let v385 : BitVec 32 := Scalar.addi c0_i32_190 v384
  v385.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_75 : BitVec 32 := 5#32
  let v186 : BitVec 1 := Scalar.cmpi .ne v2 c5_i32_75
  let v187 : BitVec 32 := Scalar.extui v186
  let c0_i32_76 : BitVec 32 := 0#32
  let v188 : BitVec 1 := Scalar.cmpi .ne v187 c0_i32_76
  v188

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev22 : Nat :=
  let c0_i32_190 : BitVec 32 := 0#32
  let c5_i32_188 : BitVec 32 := 5#32
  let c1_i32_189 : BitVec 32 := 1#32
  let v384 : BitVec 32 := Scalar.muli c5_i32_188 c1_i32_189
  let v385 : BitVec 32 := Scalar.addi c0_i32_190 v384
  v385.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_77 : BitVec 32 := 6#32
  let v189 : BitVec 1 := Scalar.cmpi .ne v2 c6_i32_77
  let v190 : BitVec 32 := Scalar.extui v189
  let c0_i32_78 : BitVec 32 := 0#32
  let v191 : BitVec 1 := Scalar.cmpi .ne v190 c0_i32_78
  v191

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev23 : Nat :=
  let c0_i32_190 : BitVec 32 := 0#32
  let c6_i32_188 : BitVec 32 := 6#32
  let c1_i32_189 : BitVec 32 := 1#32
  let v384 : BitVec 32 := Scalar.muli c6_i32_188 c1_i32_189
  let v385 : BitVec 32 := Scalar.addi c0_i32_190 v384
  v385.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_79 : BitVec 32 := 7#32
  let v192 : BitVec 1 := Scalar.cmpi .ne v2 c7_i32_79
  let v193 : BitVec 32 := Scalar.extui v192
  let c0_i32_80 : BitVec 32 := 0#32
  let v194 : BitVec 1 := Scalar.cmpi .ne v193 c0_i32_80
  v194

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev24 : Nat :=
  let c0_i32_190 : BitVec 32 := 0#32
  let c7_i32_188 : BitVec 32 := 7#32
  let c1_i32_189 : BitVec 32 := 1#32
  let v384 : BitVec 32 := Scalar.muli c7_i32_188 c1_i32_189
  let v385 : BitVec 32 := Scalar.addi c0_i32_190 v384
  v385.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_81 : BitVec 32 := 8#32
  let v195 : BitVec 1 := Scalar.cmpi .ne v2 c8_i32_81
  let v196 : BitVec 32 := Scalar.extui v195
  let c0_i32_82 : BitVec 32 := 0#32
  let v197 : BitVec 1 := Scalar.cmpi .ne v196 c0_i32_82
  v197

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev25 : Nat :=
  let c0_i32_190 : BitVec 32 := 0#32
  let c8_i32_188 : BitVec 32 := 8#32
  let c1_i32_189 : BitVec 32 := 1#32
  let v384 : BitVec 32 := Scalar.muli c8_i32_188 c1_i32_189
  let v385 : BitVec 32 := Scalar.addi c0_i32_190 v384
  v385.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_83 : BitVec 32 := 9#32
  let v198 : BitVec 1 := Scalar.cmpi .ne v2 c9_i32_83
  let v199 : BitVec 32 := Scalar.extui v198
  let c0_i32_84 : BitVec 32 := 0#32
  let v200 : BitVec 1 := Scalar.cmpi .ne v199 c0_i32_84
  v200

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev26 : Nat :=
  let c0_i32_190 : BitVec 32 := 0#32
  let c9_i32_188 : BitVec 32 := 9#32
  let c1_i32_189 : BitVec 32 := 1#32
  let v384 : BitVec 32 := Scalar.muli c9_i32_188 c1_i32_189
  let v385 : BitVec 32 := Scalar.addi c0_i32_190 v384
  v385.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_85 : BitVec 32 := 10#32
  let v201 : BitVec 1 := Scalar.cmpi .ne v2 c10_i32_85
  let v202 : BitVec 32 := Scalar.extui v201
  let c0_i32_86 : BitVec 32 := 0#32
  let v203 : BitVec 1 := Scalar.cmpi .ne v202 c0_i32_86
  v203

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev27 : Nat :=
  let c0_i32_190 : BitVec 32 := 0#32
  let c10_i32_188 : BitVec 32 := 10#32
  let c1_i32_189 : BitVec 32 := 1#32
  let v384 : BitVec 32 := Scalar.muli c10_i32_188 c1_i32_189
  let v385 : BitVec 32 := Scalar.addi c0_i32_190 v384
  v385.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_87 : BitVec 32 := 11#32
  let v204 : BitVec 1 := Scalar.cmpi .ne v2 c11_i32_87
  let v205 : BitVec 32 := Scalar.extui v204
  let c0_i32_88 : BitVec 32 := 0#32
  let v206 : BitVec 1 := Scalar.cmpi .ne v205 c0_i32_88
  v206

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev28 : Nat :=
  let c0_i32_190 : BitVec 32 := 0#32
  let c11_i32_188 : BitVec 32 := 11#32
  let c1_i32_189 : BitVec 32 := 1#32
  let v384 : BitVec 32 := Scalar.muli c11_i32_188 c1_i32_189
  let v385 : BitVec 32 := Scalar.addi c0_i32_190 v384
  v385.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_89 : BitVec 32 := 12#32
  let v207 : BitVec 1 := Scalar.cmpi .ne v2 c12_i32_89
  let v208 : BitVec 32 := Scalar.extui v207
  let c0_i32_90 : BitVec 32 := 0#32
  let v209 : BitVec 1 := Scalar.cmpi .ne v208 c0_i32_90
  v209

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev29 : Nat :=
  let c0_i32_190 : BitVec 32 := 0#32
  let c12_i32_188 : BitVec 32 := 12#32
  let c1_i32_189 : BitVec 32 := 1#32
  let v384 : BitVec 32 := Scalar.muli c12_i32_188 c1_i32_189
  let v385 : BitVec 32 := Scalar.addi c0_i32_190 v384
  v385.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_91 : BitVec 32 := 13#32
  let v210 : BitVec 1 := Scalar.cmpi .ne v2 c13_i32_91
  let v211 : BitVec 32 := Scalar.extui v210
  let c0_i32_92 : BitVec 32 := 0#32
  let v212 : BitVec 1 := Scalar.cmpi .ne v211 c0_i32_92
  v212

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev30 : Nat :=
  let c0_i32_190 : BitVec 32 := 0#32
  let c13_i32_188 : BitVec 32 := 13#32
  let c1_i32_189 : BitVec 32 := 1#32
  let v384 : BitVec 32 := Scalar.muli c13_i32_188 c1_i32_189
  let v385 : BitVec 32 := Scalar.addi c0_i32_190 v384
  v385.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_93 : BitVec 32 := 14#32
  let v213 : BitVec 1 := Scalar.cmpi .ne v2 c14_i32_93
  let v214 : BitVec 32 := Scalar.extui v213
  let c0_i32_94 : BitVec 32 := 0#32
  let v215 : BitVec 1 := Scalar.cmpi .ne v214 c0_i32_94
  v215

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev31 : Nat :=
  let c0_i32_190 : BitVec 32 := 0#32
  let c14_i32_188 : BitVec 32 := 14#32
  let c1_i32_189 : BitVec 32 := 1#32
  let v384 : BitVec 32 := Scalar.muli c14_i32_188 c1_i32_189
  let v385 : BitVec 32 := Scalar.addi c0_i32_190 v384
  v385.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_95 : BitVec 32 := 15#32
  let v216 : BitVec 1 := Scalar.cmpi .ne v2 c15_i32_95
  let v217 : BitVec 32 := Scalar.extui v216
  let c0_i32_96 : BitVec 32 := 0#32
  let v218 : BitVec 1 := Scalar.cmpi .ne v217 c0_i32_96
  v218

def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_191 : BitVec 32 := 0#32
  let c0_i32_192 : BitVec 32 := 0#32
  ![v2.toNat, 0, 0]
def k0_dev32 : Nat :=
  let c0_i32_190 : BitVec 32 := 0#32
  let c15_i32_188 : BitVec 32 := 15#32
  let c1_i32_189 : BitVec 32 := 1#32
  let v384 : BitVec 32 := Scalar.muli c15_i32_188 c1_i32_189
  let v385 : BitVec 32 := Scalar.addi c0_i32_190 v384
  v385.toNat
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v267 : BitVec 32 := Scalar.muli v2 c32_i32
  let v268 : Index := Scalar.indexCast v267
  let c0_129 : Index := 0#32
  ![v268.toNat, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_155 : BitVec 32 := 0#32
  let v336 : BitVec 1 := Scalar.cmpi .ne v2 c0_i32_155
  let v337 : BitVec 32 := Scalar.extui v336
  let c0_i32_156 : BitVec 32 := 0#32
  let v338 : BitVec 1 := Scalar.cmpi .ne v337 c0_i32_156
  v338

def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_157 : BitVec 32 := 1#32
  let v339 : BitVec 1 := Scalar.cmpi .ne v2 c1_i32_157
  let v340 : BitVec 32 := Scalar.extui v339
  let c0_i32_158 : BitVec 32 := 0#32
  let v341 : BitVec 1 := Scalar.cmpi .ne v340 c0_i32_158
  v341

def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_159 : BitVec 32 := 2#32
  let v342 : BitVec 1 := Scalar.cmpi .ne v2 c2_i32_159
  let v343 : BitVec 32 := Scalar.extui v342
  let c0_i32_160 : BitVec 32 := 0#32
  let v344 : BitVec 1 := Scalar.cmpi .ne v343 c0_i32_160
  v344

def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_161 : BitVec 32 := 3#32
  let v345 : BitVec 1 := Scalar.cmpi .ne v2 c3_i32_161
  let v346 : BitVec 32 := Scalar.extui v345
  let c0_i32_162 : BitVec 32 := 0#32
  let v347 : BitVec 1 := Scalar.cmpi .ne v346 c0_i32_162
  v347

def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_163 : BitVec 32 := 4#32
  let v348 : BitVec 1 := Scalar.cmpi .ne v2 c4_i32_163
  let v349 : BitVec 32 := Scalar.extui v348
  let c0_i32_164 : BitVec 32 := 0#32
  let v350 : BitVec 1 := Scalar.cmpi .ne v349 c0_i32_164
  v350

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_165 : BitVec 32 := 5#32
  let v351 : BitVec 1 := Scalar.cmpi .ne v2 c5_i32_165
  let v352 : BitVec 32 := Scalar.extui v351
  let c0_i32_166 : BitVec 32 := 0#32
  let v353 : BitVec 1 := Scalar.cmpi .ne v352 c0_i32_166
  v353

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_167 : BitVec 32 := 6#32
  let v354 : BitVec 1 := Scalar.cmpi .ne v2 c6_i32_167
  let v355 : BitVec 32 := Scalar.extui v354
  let c0_i32_168 : BitVec 32 := 0#32
  let v356 : BitVec 1 := Scalar.cmpi .ne v355 c0_i32_168
  v356

def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_169 : BitVec 32 := 7#32
  let v357 : BitVec 1 := Scalar.cmpi .ne v2 c7_i32_169
  let v358 : BitVec 32 := Scalar.extui v357
  let c0_i32_170 : BitVec 32 := 0#32
  let v359 : BitVec 1 := Scalar.cmpi .ne v358 c0_i32_170
  v359

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_171 : BitVec 32 := 8#32
  let v360 : BitVec 1 := Scalar.cmpi .ne v2 c8_i32_171
  let v361 : BitVec 32 := Scalar.extui v360
  let c0_i32_172 : BitVec 32 := 0#32
  let v362 : BitVec 1 := Scalar.cmpi .ne v361 c0_i32_172
  v362

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_173 : BitVec 32 := 9#32
  let v363 : BitVec 1 := Scalar.cmpi .ne v2 c9_i32_173
  let v364 : BitVec 32 := Scalar.extui v363
  let c0_i32_174 : BitVec 32 := 0#32
  let v365 : BitVec 1 := Scalar.cmpi .ne v364 c0_i32_174
  v365

def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_175 : BitVec 32 := 10#32
  let v366 : BitVec 1 := Scalar.cmpi .ne v2 c10_i32_175
  let v367 : BitVec 32 := Scalar.extui v366
  let c0_i32_176 : BitVec 32 := 0#32
  let v368 : BitVec 1 := Scalar.cmpi .ne v367 c0_i32_176
  v368

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_177 : BitVec 32 := 11#32
  let v369 : BitVec 1 := Scalar.cmpi .ne v2 c11_i32_177
  let v370 : BitVec 32 := Scalar.extui v369
  let c0_i32_178 : BitVec 32 := 0#32
  let v371 : BitVec 1 := Scalar.cmpi .ne v370 c0_i32_178
  v371

def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_179 : BitVec 32 := 12#32
  let v372 : BitVec 1 := Scalar.cmpi .ne v2 c12_i32_179
  let v373 : BitVec 32 := Scalar.extui v372
  let c0_i32_180 : BitVec 32 := 0#32
  let v374 : BitVec 1 := Scalar.cmpi .ne v373 c0_i32_180
  v374

def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_181 : BitVec 32 := 13#32
  let v375 : BitVec 1 := Scalar.cmpi .ne v2 c13_i32_181
  let v376 : BitVec 32 := Scalar.extui v375
  let c0_i32_182 : BitVec 32 := 0#32
  let v377 : BitVec 1 := Scalar.cmpi .ne v376 c0_i32_182
  v377

def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_183 : BitVec 32 := 14#32
  let v378 : BitVec 1 := Scalar.cmpi .ne v2 c14_i32_183
  let v379 : BitVec 32 := Scalar.extui v378
  let c0_i32_184 : BitVec 32 := 0#32
  let v380 : BitVec 1 := Scalar.cmpi .ne v379 c0_i32_184
  v380

def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_185 : BitVec 32 := 15#32
  let v381 : BitVec 1 := Scalar.cmpi .ne v2 c15_i32_185
  let v382 : BitVec 32 := Scalar.extui v381
  let c0_i32_186 : BitVec 32 := 0#32
  let v383 : BitVec 1 := Scalar.cmpi .ne v382 c0_i32_186
  v383

def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_190 : BitVec 32 := 0#32
  let c0_i32_191 : BitVec 32 := 0#32
  ![v2.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S512 : Shape := ⟨1, ![512]⟩
abbrev S512x512 : Shape := ⟨2, ![512, 512]⟩
abbrev S1x512 : Shape := ⟨2, ![1, 512]⟩
abbrev S_ : Shape := ⟨0, ![]⟩
abbrev S512x256x512 : Shape := ⟨3, ![512, 256, 512]⟩

abbrev nBuf : Space → Nat
  | .hbm => 36
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S64x256x512, .f32⟩
  | .hbm, ⟨4, _⟩ => ⟨S512, .i32⟩
  | .hbm, ⟨5, _⟩ => ⟨S512x512, .i32⟩
  | .hbm, ⟨6, _⟩ => ⟨S512x512, .i32⟩
  | .hbm, ⟨7, _⟩ => ⟨S512x1, .i32⟩
  | .hbm, ⟨8, _⟩ => ⟨S1x512, .i32⟩
  | .hbm, ⟨9, _⟩ => ⟨S512x512, .i32⟩
  | .hbm, ⟨10, _⟩ => ⟨S512x512, .i32⟩
  | .hbm, ⟨11, _⟩ => ⟨S512x512, .i1⟩
  | .hbm, ⟨12, _⟩ => ⟨S512x512, .i1⟩
  | .hbm, ⟨13, _⟩ => ⟨S512x512, .i1⟩
  | .hbm, ⟨14, _⟩ => ⟨S512x512, .i32⟩
  | .hbm, ⟨15, _⟩ => ⟨S_, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S512x256x512, .f32⟩
  | .hbm, ⟨26, _⟩ => ⟨S512x512, .f32⟩
  | .hbm, ⟨27, _⟩ => ⟨S512x1, .i32⟩
  | .hbm, ⟨28, _⟩ => ⟨S_, .i32⟩
  | .hbm, ⟨29, _⟩ => ⟨S512x1, .i32⟩
  | .hbm, ⟨30, _⟩ => ⟨S512x1, .i1⟩
  | .hbm, ⟨31, _⟩ => ⟨S_, .f32⟩
  | .hbm, ⟨32, _⟩ => ⟨S_, .f32⟩
  | .hbm, ⟨33, _⟩ => ⟨S512x512, .i1⟩
  | .hbm, ⟨34, _⟩ => ⟨S512x512, .f32⟩
  | .hbm, ⟨35, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.Mesh.lean ====
/-
# 01_k: the sixteen devices, their semaphores and what each semaphore's units stand for

Every device keeps a receive buffer of sixteen slots of 32 rows. Device `p` owns, on every device, slot `p`: it
writes the first 24 rows of its own copy and sends those rows into slot `p` of every other device. Before that, every
device tells every other one, on the runtime's barrier semaphore, that its buffer is zeroed; the signal from `p` to `c`
hands `c` the right to write slot `c` of `p`'s buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties of a semaphore are named by the device that pays them. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers and semaphores -/

abbrev xM : Memref sig .tc .vmem S512x256 .f32 := Memref.whole cc0_stg0_0
abbrev iM : Memref sig .tc .vmem S512x1 .i32 := Memref.whole cc0_stg1_0
abbrev wM : Memref sig .tc .vmem S4x256x512 .f32 := Memref.whole cc0_stg2_0
abbrev oM : Memref sig .tc .vmem S32x512 .f32 := Memref.whole cc0_stg3_0
abbrev pM : Memref sig .tc .vmem S16x32x512 .bf16 := Memref.whole cc0_scratch0
abbrev rM : Memref sig .tc .vmem S512x1 .i32 := Memref.whole cc0_scratch1

theorem slot_inb (p : Dev nD) : ∀ a, (![p.val, 0, 0] : Fin 3 → ℕ) a + S1x24x512.size a ≤ S16x32x512.size a := by
  revert p; decide

/-- The first 24 rows of slot `p`, the part that travels. -/
abbrev slotM (p : Dev nD) : Memref sig .tc .vmem S24x512 .bf16 :=
  (pM.slice (Rect.unit (s := S16x32x512) ![p.val, 0, 0] S1x24x512.size (slot_inb p)) (fun _ => rfl)).squeeze S24x512 squeezes_S1x24x512_S24x512

theorem slotM_of {off : Fin 3 → ℕ} {p : Dev nD} (h : off = ![p.val, 0, 0]) (inb) (hs) :
    (pM.slice (Rect.unit (s := S16x32x512) off S1x24x512.size inb) hs).squeeze S24x512 squeezes_S1x24x512_S24x512 = slotM p := by
  subst h; rfl

/-- The elements of the buffer lying in the first 24 rows of slot `p`. -/
def slotSet (p : Dev nD) : Finset (Shape.Idx S16x32x512) :=
  (Rect.unit (s := S16x32x512) ![p.val, 0, 0] S1x24x512.size (slot_inb p)).set

theorem mem_slotSet {p : Dev nD} {i : Shape.Idx S16x32x512} : i ∈ slotSet p ↔ (i 0).val = p.val ∧ (i 1).val < 24 := by
  have h2 : (i 2).val < 512 := (i 2).isLt
  unfold slotSet
  rw [Rect.mem_set_unit]
  constructor
  · intro h
    have h0 := h 0; have h1 := h 1
    simp [S1x24x512] at h0 h1
    omega
  · rintro ⟨h0, h1⟩ a
    fin_cases a <;> simp [S1x24x512] <;> omega

theorem slotM_set (p : Dev nD) : (slotM p).view.set = slotSet p := by
  show ((((View.whole cc0_scratch0).slice _).reshape S24x512 _).set) = _
  rw [View.set_reshape, View.set_slice_whole]; rfl

theorem slotSet_disjoint {p q : Dev nD} (h : p ≠ q) : Disjoint (slotSet p) (slotSet q) := by
  rw [Finset.disjoint_left]
  intro i hp hq
  exact h (Fin.ext ((mem_slotSet.mp hp).1.symm.trans (mem_slotSet.mp hq).1))

/-- The runtime's barrier semaphore. -/
abbrev barS : Sem sig := (SemArray.scalar (sig.barrier 0 rfl) : Sems sig S_).sem

set_option backward.proofsInPublic true in
/-- The semaphore device `c` waits on for its transfer to `p` to have left. -/
def sendS (p : Dev nD) : DmaSem sig := ⟨4 + p.val, Nat.lt_of_lt_of_le (Nat.add_lt_add_left p.isLt 4) (by decide)⟩
set_option backward.proofsInPublic true in
/-- The semaphore device `c` waits on for the transfer of `p` to have landed. -/
def recvS (p : Dev nD) : DmaSem sig := ⟨20 + p.val, Nat.lt_of_lt_of_le (Nat.add_lt_add_left p.isLt 20) (by decide)⟩

theorem sem1_inb (p : Dev nD) : ∀ a, (![p.val] : Fin 1 → ℕ) a + S1.size a ≤ S16.size a := by revert p; decide

theorem sendS_of {off : Fin 1 → ℕ} {p : Dev nD} (h : off = ![p.val]) (inb) :
    ((cc0_scratch2.slice (Rect.unit (s := S16) off S1.size inb)).squeeze S_ squeezes_S1_S_).sem = sendS p := by
  subst h; revert p; decide +kernel
theorem recvS_of {off : Fin 1 → ℕ} {p : Dev nD} (h : off = ![p.val]) (inb) :
    ((cc0_scratch3.slice (Rect.unit (s := S16) off S1.size inb)).squeeze S_ squeezes_S1_S_).sem = recvS p := by
  subst h; revert p; decide +kernel

abbrev barCell (c : Dev nD) : GSem nD τ sig := ((c : Thread nD τ), .reg barS)
abbrev sendCell (c p : Dev nD) : GSem nD τ sig := ((c : Thread nD τ), .dma (sendS p))
abbrev recvCell (c p : Dev nD) : GSem nD τ sig := ((c : Thread nD τ), .dma (recvS p))

/-- What one transfer of 24 rows credits. -/
abbrev N : ℕ := (slotM 0).view.dmaCredit
theorem N_pos : 0 < N := View.dmaCredit_pos _ (by decide)
theorem credit_slot (p : Dev nD) : (slotM p).view.dmaCredit = N := rfl

/-! ## What travels -/

/-- The contents of a receive buffer. -/
abbrev PBuf (F : FTy → Type) : Type := (cc0_scratch0 : Ref sig .tc).ty.Contents (Elt F)

variable (own : Dev nD → PBuf F)

/-- The buffer once everything has landed: slot `p` is what device `p` wrote there. -/
def gath : PBuf F := fun i => own (⟨(i 0).val, (i 0).isLt⟩ : Dev nD) i

theorem gath_slot {p : Dev nD} {i : Shape.Idx S16x32x512} (h : i ∈ slotSet p) : gath own i = own p i := by
  unfold gath
  rw [show (⟨(i 0).val, (i 0).isLt⟩ : Dev nD) = p from Fin.ext (mem_slotSet.mp h).1]

/-- Elements `I` of device `c`'s receive buffer, held at share `q` with contents `f`. -/
def bufPts (c : Dev nD) (I : Finset (Shape.Idx S16x32x512)) (q : PosShare TreeShare) (f : PBuf F) : sProp 𝕄 :=
  ((c : Thread nD τ).loc cc0_scratch0) ↦[I]{q} f

omit [FloatOps F] in
instance bufPts_storable (c : Dev nD) (I q f) : BI.Storable (upEmb : UEmb _ 𝕄) (bufPts (F := F) c I q f) := by
  unfold bufPts; infer_instance

/-- The sixteenth of the whole share that goes with device `p`. -/
def sh (p : Dev nD) : PosShare TreeShare := ShareLeaves.leaf 4 fullShare (Fin.cast rfl p)

omit [FloatOps F] in
/-- A holding splits into sixteen equal shares. -/
theorem bufPts_shares (c : Dev nD) (I) (f : PBuf F) :
    bufPts c I fullShare f = bigSep Finset.univ fun p : Dev nD => bufPts c I (sh p) f := by
  unfold bufPts
  have h := ShareLeaves.pointsTo_leaves (Ix := Unit) (Name := ℕ) (U := UU) (Lvl := ℕ) (Val := Elt F) (ℓ := (c : Thread nD τ).loc cc0_scratch0) I f 4 fullShare
  rw [h]
  exact bigSep_univ_equiv (finCongr (rfl : nD = 2 ^ 4)) _

/-! ## The schedule -/

/-- The device a transfer semaphore goes with. -/
def peer (q : DmaSem sig) : Dev nD := ⟨(q.val - 4) % 16, Nat.mod_lt _ (by decide)⟩

theorem peer_send (p : Dev nD) : peer (sendS p) = p := by revert p; decide
theorem peer_recv (p : Dev nD) : peer (recvS p) = p := by revert p; decide
theorem send_lt (p : Dev nD) : (sendS p).val < 20 := by revert p; decide
theorem send_ge (p : Dev nD) : 4 ≤ (sendS p).val := by revert p; decide
theorem recv_ge (p : Dev nD) : 20 ≤ (recvS p).val := by revert p; decide

/-- The devices that pay into a semaphore of device `c`. -/
def payers (c : Dev nD) : SemLoc sig → Finset (Dev nD)
  | .reg s => if s = barS then Finset.univ.erase c else ∅
  | .dma q => if 4 ≤ q.val ∧ peer q ≠ c then {peer q} else ∅

def units : SemLoc sig → ℕ
  | .reg _ => 1
  | .dma _ => N

/-- What a unit paid by `d` into a semaphore of device `c` hands to `c`: on the barrier, slot `c` of `d`'s buffer, zeroed;
    on a receive semaphore, the slot that has landed; on a send semaphore, the share of the own slot the transfer read. -/
def hand (c d : Dev nD) : SemLoc sig → sProp 𝕄
  | .reg _ => bufPts d (slotSet c) fullShare (k0_pay1 (F := F))
  | .dma q => if 20 ≤ q.val then bufPts c (slotSet (peer q)) fullShare (gath own) else bufPts c (slotSet c) (sh (peer q)) (gath own)

/-- Every semaphore has one round. -/
def sched : Rounds.Schedule (GSem nD τ sig) (Dev nD) 𝕄 where
  duties g r := if r = 0 ∧ g.1.2 = .tc then payers g.1.1 g.2 else ∅
  unitless _ := False
  amount g _ _ := units g.2
  payload g _ d := hand own g.1.1 d g.2
  amount_pos g _ _ _ := by
    rcases g with ⟨t, s | q⟩
    · exact Nat.one_pos
    · exact N_pos

instance sched_storable (g : GSem nD τ sig) (r : ℕ) (d : Dev nD) :
    BI.Storable (upEmb : UEmb _ 𝕄) ((sched (F := F) own).payload g r d) := by
  rcases g with ⟨t, s | q⟩
  · show BI.Storable upEmb (bufPts d (slotSet t.1) fullShare (k0_pay1 (F := F))); infer_instance
  · show BI.Storable upEmb (if 20 ≤ q.val then bufPts t.1 (slotSet (peer q)) fullShare (gath own) else bufPts t.1 (slotSet t.1) (sh (peer q)) (gath own))
    split <;> infer_instance

section Sched
variable (c p : Dev nD)

theorem duties_zero (s : SemLoc sig) : (sched own).duties ((c : Thread nD τ), s) 0 = payers c s := by
  dsimp only [sched]; exact if_pos ⟨rfl, rfl⟩
theorem duties_bar : (sched own).duties (barCell c) 0 = Finset.univ.erase c := by
  rw [duties_zero]; unfold payers; dsimp only; exact if_pos rfl
theorem duties_send (h : p ≠ c) : (sched own).duties (sendCell c p) 0 = {p} := by
  rw [duties_zero]; unfold payers; dsimp only; rw [if_pos ⟨send_ge p, by rw [peer_send]; exact h⟩, peer_send]
theorem duties_recv (h : p ≠ c) : (sched own).duties (recvCell c p) 0 = {p} := by
  rw [duties_zero]; unfold payers; dsimp only
  rw [if_pos ⟨le_trans (by decide) (recv_ge p), by rw [peer_recv]; exact h⟩, peer_recv]
theorem duties_own_send : (sched own).duties (sendCell c c) 0 = ∅ := by
  rw [duties_zero]; unfold payers; dsimp only; rw [if_neg fun h => h.2 (peer_send c)]
theorem duties_own_recv : (sched own).duties (recvCell c c) 0 = ∅ := by
  rw [duties_zero]; unfold payers; dsimp only; rw [if_neg fun h => h.2 (peer_recv c)]
theorem duties_later (g : GSem nD τ sig) : ∀ r, 1 ≤ r → (sched own).duties g r = ∅ :=
  fun r hr => if_neg fun h => by omega

theorem expect_bar : (sched own).expect (barCell c) 0 = 15 := by
  unfold Schedule.expect Schedule.amountOf
  rw [duties_bar]
  refine (Finset.sum_const 1).trans ?_
  rw [Finset.card_erase_of_mem (Finset.mem_univ c), Finset.card_univ, smul_eq_mul]
  decide
theorem expect_send (h : p ≠ c) : (sched own).expect (sendCell c p) 0 = N := by
  unfold Schedule.expect Schedule.amountOf; rw [duties_send own c p h, Finset.sum_singleton]; rfl
theorem expect_recv (h : p ≠ c) : (sched own).expect (recvCell c p) 0 = N := by
  unfold Schedule.expect Schedule.amountOf; rw [duties_recv own c p h, Finset.sum_singleton]; rfl

theorem payload_bar (d : Dev nD) : (sched own).payload (barCell c) 0 d = bufPts d (slotSet c) fullShare (k0_pay1 (F := F)) := rfl
theorem payload_send (d : Dev nD) : (sched own).payload (sendCell c p) 0 d = bufPts c (slotSet c) (sh p) (gath own) := by
  show hand own c d (.dma (sendS p)) = _
  unfold hand; dsimp only; rw [if_neg (Nat.not_le.mpr (send_lt p)), peer_send]
theorem payload_recv (d : Dev nD) : (sched own).payload (recvCell c p) 0 d = bufPts c (slotSet p) fullShare (gath own) := by
  show hand own c d (.dma (recvS p)) = _
  unfold hand; dsimp only; rw [if_pos (recv_ge p), peer_recv]

theorem rest_bar : bigSep ((sched own).duties (barCell c) 0 \ ∅) (fun d => (sched own).payload (barCell c) 0 d)
    = bigSep (Finset.univ.erase c) fun d => bufPts d (slotSet c) fullShare (k0_pay1 (F := F)) := by
  rw [Finset.sdiff_empty, duties_bar]; rfl
theorem rest_send (h : p ≠ c) : bigSep ((sched own).duties (sendCell c p) 0 \ ∅) (fun d => (sched own).payload (sendCell c p) 0 d)
    = bufPts c (slotSet c) (sh p) (gath own) := by
  rw [Finset.sdiff_empty, duties_send own c p h, bigSep_singleton, payload_send]
theorem rest_recv (h : p ≠ c) : bigSep ((sched own).duties (recvCell c p) 0 \ ∅) (fun d => (sched own).payload (recvCell c p) 0 d)
    = bufPts c (slotSet p) fullShare (gath own) := by
  rw [Finset.sdiff_empty, duties_recv own c p h, bigSep_singleton, payload_recv]

end Sched

/-! ## Peers handled one after the other -/

/-- The body treats its peers in order; with `n` of them treated, each treated peer `p` stands at `B p`, each other at `A p`. -/
def prog (c : Dev nD) (n : ℕ) (A B : Dev nD → sProp 𝕄) : sProp 𝕄 :=
  bigSep Finset.univ fun p => if p = c then iprop(emp) else if p.val < n then B p else A p

/-- What is left of `prog` beside peer `p`. -/
def progRest (c p : Dev nD) (A B : Dev nD → sProp 𝕄) : sProp 𝕄 :=
  bigSep (Finset.univ.erase p) fun q => if q = c then iprop(emp) else if q.val < p.val then B q else A q

omit [FloatOps F] in
theorem prog_before {c p : Dev nD} (h : p ≠ c) (A B : Dev nD → sProp 𝕄) : prog c p.val A B = iprop(A p ∗ progRest c p A B) := by
  unfold prog progRest
  rw [bigSep_univ_at _ p, if_neg h, if_neg (Nat.lt_irrefl _)]

omit [FloatOps F] in
theorem prog_after {c p : Dev nD} (h : p ≠ c) (A B : Dev nD → sProp 𝕄) : prog c (p.val + 1) A B = iprop(B p ∗ progRest c p A B) := by
  unfold prog progRest
  rw [bigSep_univ_at _ p, if_neg h, if_pos (Nat.lt_succ_self _)]
  congr 1
  refine bigSep_congr fun q hq => ?_
  have hne : q.val ≠ p.val := fun e => (Finset.mem_erase.mp hq).1 (Fin.ext e)
  by_cases hc : q = c
  · rw [if_pos hc, if_pos hc]
  · rw [if_neg hc, if_neg hc]
    by_cases hl : q.val < p.val
    · rw [if_pos hl, if_pos (by omega)]
    · rw [if_neg hl, if_neg (by omega)]

omit [FloatOps F] in
theorem prog_skip (c : Dev nD) (A B : Dev nD → sProp 𝕄) : prog c c.val A B = prog c (c.val + 1) A B := by
  unfold prog
  refine bigSep_congr fun q _ => ?_
  by_cases hc : q = c
  · rw [if_pos hc, if_pos hc]
  · rw [if_neg hc, if_neg hc]
    have hne : q.val ≠ c.val := fun e => hc (Fin.ext e)
    by_cases hl : q.val < c.val
    · rw [if_pos hl, if_pos (by omega)]
    · rw [if_neg hl, if_neg (by omega)]

omit [FloatOps F] in
theorem prog_first (c : Dev nD) (A B : Dev nD → sProp 𝕄) : prog c 0 A B = bigSep (Finset.univ.erase c) A := by
  unfold prog
  rw [bigSep_univ_at _ c, if_pos rfl]
  refine (emp_sep_eq _).trans (bigSep_congr fun q hq => ?_)
  rw [if_neg (Finset.mem_erase.mp hq).1, if_neg (Nat.not_lt_zero _)]

omit [FloatOps F] in
theorem prog_last (c : Dev nD) (A B : Dev nD → sProp 𝕄) : prog c 16 A B = bigSep (Finset.univ.erase c) B := by
  unfold prog
  rw [bigSep_univ_at _ c, if_pos rfl]
  refine (emp_sep_eq _).trans (bigSep_congr fun q hq => ?_)
  rw [if_neg (Finset.mem_erase.mp hq).1, if_pos q.isLt]

/-- What is still owed with the first `n` peers served. -/
def due (c : Dev nD) (n : ℕ) (T : Dev nD → CellTallies nD τ sig Unit) : CellTallies nD τ sig Unit :=
  ∑ p, if p = c ∨ p.val < n then 0 else T p

theorem due_step {c p : Dev nD} (h : p ≠ c) (T : Dev nD → CellTallies nD τ sig Unit) : due c p.val T = due c (p.val + 1) T + T p := by
  unfold due
  rw [← Finset.sum_erase_add Finset.univ (fun q => if q = c ∨ q.val < p.val then 0 else T q) (Finset.mem_univ p),
    ← Finset.sum_erase_add Finset.univ (fun q => if q = c ∨ q.val < p.val + 1 then 0 else T q) (Finset.mem_univ p),
    if_neg (fun e => e.elim h (Nat.lt_irrefl _)), if_pos (Or.inr (Nat.lt_succ_self _)), add_zero]
  congr 1
  refine Finset.sum_congr rfl fun q hq => ?_
  have hne : q.val ≠ p.val := fun e => (Finset.mem_erase.mp hq).1 (Fin.ext e)
  exact if_congr (or_congr Iff.rfl (by omega)) rfl rfl

theorem due_skip (c : Dev nD) (T : Dev nD → CellTallies nD τ sig Unit) : due c c.val T = due c (c.val + 1) T := by
  unfold due
  refine Finset.sum_congr rfl fun q _ => ?_
  by_cases hc : q = c
  · rw [if_pos (.inl hc), if_pos (.inl hc)]
  · have hne : q.val ≠ c.val := fun e => hc (Fin.ext e)
    exact if_congr (or_congr Iff.rfl (by omega)) rfl rfl

theorem due_last (c : Dev nD) (T : Dev nD → CellTallies nD τ sig Unit) : due c 16 T = 0 :=
  Finset.sum_eq_zero fun q _ => if_pos (.inr q.isLt)

/-- A cell that is owed something is owed it by one of the summands. -/
theorem due_pos {c : Dev nD} {n : ℕ} {cell : Dev nD → GSem nD τ sig} {k : ℕ} {g : GSem nD τ sig} {u : Unit}
    (h : 0 < due c n (fun p => tallyAt (cell p) () k) g u) : ∃ p, p ≠ c ∧ g = cell p := by
  by_contra hn
  push Not at hn
  refine absurd h (Nat.not_lt.mpr (Nat.le_of_eq ?_))
  unfold due
  rw [Finset.sum_apply, Finsupp.finset_sum_apply]
  refine Finset.sum_eq_zero fun p _ => ?_
  by_cases hp : p = c ∨ p.val < n
  · rw [if_pos hp]; rfl
  · rw [if_neg hp, tallyAt_apply, if_neg fun e => hn p (fun e' => hp (.inl e')) e.1]

/-! ## Levels -/

def L (g : GSem nD τ sig) : Finset Unit := if g.1.2 = .tc then {()} else ∅
/-- Barrier semaphores come before receive semaphores, everything else before both. -/
def lv (g : GSem nD τ sig) (_ : Unit) : ℕ :=
  match g.2 with
  | .reg _ => 1
  | .dma q => if 20 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c p : Dev nD) : lv (recvCell c p) () = 2 := if_pos (recv_ge p)

abbrev recvT (c : Dev nD) (p : Dev nD) : CellTallies nD τ sig Unit := tallyAt (recvCell p c) () N
abbrev barT (p : Dev nD) : CellTallies nD τ sig Unit := tallyAt (barCell p) () 1

/-- What device `c` owes at launch: a unit to every other device's barrier and a transfer to every other device. -/
def O₀ (c : Dev nD) : CellTallies nD τ sig Unit := due c 0 (recvT c) + due c 0 barT

theorem O₀_pos {c : Dev nD} {g : GSem nD τ sig} {u : Unit} (h : 0 < O₀ c g u) :
    (∃ p, p ≠ c ∧ g = recvCell p c) ∨ ∃ p, p ≠ c ∧ g = barCell p := by
  unfold O₀ at h
  rw [Pi.add_apply, Finsupp.add_apply] at h
  by_cases h1 : 0 < due c 0 (recvT c) g u
  · exact .inl (due_pos h1)
  · exact .inr (due_pos (n := 0) (cell := barCell) (k := 1) (by have := Nat.eq_zero_of_not_pos h1; rwa [this, Nat.zero_add] at h))

omit [FloatOps F] in
/-- A staging semaphore may be waited on whatever the launch owes. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, -, rfl⟩ | ⟨p, -, rfl⟩ <;> exact Finset.mem_singleton_self _)
      (fun p hp => by
        rw [Finset.mem_singleton.mp hp]
        show (if 20 ≤ q.val then 2 else 0) ≤ 0
        rw [if_neg (by omega)])
      (fun g u hg => by
        rcases O₀_pos hg with ⟨p, -, rfl⟩ | ⟨p, -, rfl⟩
        · rw [lv_recv]; decide
        · rw [lv_bar]; decide)
  · rw [MayWait_zero]; iintro -; iempintro

omit [FloatOps F] in
/-- At its barrier wait a device owes transfers only. -/
theorem mayWait_bar (c : Dev nD) : (levAts L lv : sProp 𝕄) ⊢ MayWait (c : Thread nD τ) (.reg barS) () (due c 0 (recvT c)) :=
  MayOwe.of_cut (L := L) (lev := lv) 1 (fun p hp => by rw [Finset.mem_singleton.mp hp, L_tc]; exact Finset.mem_singleton_self _)
    (fun g u hg => by obtain ⟨p, -, rfl⟩ := due_pos hg; exact Finset.mem_singleton_self _)
    (fun p hp => by rw [Finset.mem_singleton.mp hp]; exact le_refl 1)
    (fun g u hg => by obtain ⟨p, -, rfl⟩ := due_pos hg; rw [lv_recv]; decide)

/-! ## The cells of a device under one index -/

/-- The transfer semaphores of a device: `(false, p)` for the transfer to `p`, `(true, p)` for the one from `p`. -/
abbrev XIx : Type := Bool × Dev nD
/-- Those and, as `none`, the barrier. -/
abbrev CIx : Type := Option XIx

def osem : XIx → SemLoc sig
  | (false, p) => .dma (sendS p)
  | (true, p) => .dma (recvS p)
def csem : CIx → SemLoc sig
  | none => .reg barS
  | some k => osem k
abbrev kcell (ck : Dev nD × CIx) : GSem nD τ sig := ((ck.1 : Thread nD τ), csem ck.2)

/-- Every cell of every device has its invariant and has reached round 0. -/
def records (K : Dev nD × CIx → ℕ) : sProp 𝕄 :=
  bigSep Finset.univ fun ck => iprop(cellInv ER (sched own) (K ck) (kcell ck) ∗ reached ER (kcell ck) 0)

instance records_persistent (K : Dev nD × CIx → ℕ) : BI.Persistent (records own K) := by unfold records; infer_instance

theorem records_get (K : Dev nD × CIx → ℕ) (ck : Dev nD × CIx) :
    records own K ⊢ iprop(cellInv ER (sched own) (K ck) (kcell ck) ∗ reached ER (kcell ck) 0) := by
  unfold records; exact bigSep_elim (Finset.mem_univ ck)

end Cert.Exchange
-- ==== Proof.Steps.lean ====
/-
# 01_k: one peer of each phase

The body runs over its peers four times: it signals every peer's barrier, sends its slot to every peer, waits for every
peer's slot, and waits for its own transfers to have left. Each lemma below is one peer of one phase, guarded, as in the
body, by that peer being another device.
-/
module

public import proofs.«01_k».proof.Proof.Mesh

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `c`'s body, run to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (own : Dev nD → PBuf F) (K : Dev nD × CIx → ℕ)

/-- What device `c` owes, whatever it has waited for. -/
def owesE (c : Dev nD) (O : CellTallies nD τ sig Unit) : sProp 𝕄 := iprop(∃ W, owes (c : Thread nD τ) O W)

/-! ## The four phases after `n` peers -/

def SigSt (c : Dev nD) (n : ℕ) : sProp 𝕄 :=
  iprop(owesE c (due c 0 (recvT c) + due c n barT)
    ∗ prog c n (fun p => iprop(dutyTok ER (barCell p) 0 c ∗ bufPts c (slotSet p) fullShare (k0_pay1 (F := F)))) (fun _ => iprop(emp)))

def SendSt (c : Dev nD) (n : ℕ) : sProp 𝕄 :=
  iprop(owesE c (due c n (recvT c))
    ∗ prog c n (fun p => iprop(dutyTok ER (sendCell c p) 0 p ∗ dutyTok ER (recvCell p c) 0 c
        ∗ bufPts p (slotSet c) fullShare (k0_pay1 (F := F)) ∗ bufPts c (slotSet c) (sh p) (gath own)))
      (fun p => cred (tallyAt (sendCell c p) () N)))

def RecvSt (c : Dev nD) (n : ℕ) : sProp 𝕄 :=
  iprop(owesE c 0
    ∗ prog c n (fun p => iprop(atPos ER (recvCell c p) 0 ∅ 0 ∗ cred (tallyAt (recvCell c p) () N)))
      (fun p => iprop(semVal (recvCell c p) 0 ∗ bufPts c (slotSet p) fullShare (gath own))))

def LeftSt (c : Dev nD) (n : ℕ) : sProp 𝕄 :=
  iprop(owesE c 0
    ∗ prog c n (fun p => iprop(atPos ER (sendCell c p) 0 ∅ 0 ∗ cred (tallyAt (sendCell c p) () N)))
      (fun p => iprop(semVal (sendCell c p) 0 ∗ bufPts c (slotSet c) (sh p) (gath own))))

theorem SigSt_skip (c : Dev nD) : SigSt (F := F) c c.val = SigSt c (c.val + 1) := by
  unfold SigSt; rw [prog_skip, due_skip c barT]
theorem SendSt_skip (c : Dev nD) : SendSt own c c.val = SendSt own c (c.val + 1) := by
  unfold SendSt; rw [prog_skip, due_skip c (recvT c)]
theorem RecvSt_skip (c : Dev nD) : RecvSt own c c.val = RecvSt own c (c.val + 1) := by unfold RecvSt; rw [prog_skip]
theorem LeftSt_skip (c : Dev nD) : LeftSt own c c.val = LeftSt own c (c.val + 1) := by unfold LeftSt; rw [prog_skip]

/-! ## One peer, unguarded -/

section Ops
variable {c p : Dev nD} {α : Type} {k : Prog (TpuEff nD τ sig (Elt F) Λ₀ .tc) α}

theorem records_bar (c : Dev nD) :
    records own K ⊢ iprop(cellInv ER (sched own) (K (c, none)) (barCell c) ∗ reached ER (barCell c) 0) := records_get own K (c, none)
theorem records_send (c p : Dev nD) :
    records own K ⊢ iprop(cellInv ER (sched own) (K (c, some (false, p))) (sendCell c p) ∗ reached ER (sendCell c p) 0) :=
  records_get own K (c, some (false, p))
theorem records_recv (c p : Dev nD) :
    records own K ⊢ iprop(cellInv ER (sched own) (K (c, some (true, p))) (recvCell c p) ∗ reached ER (recvCell c p) 0) :=
  records_get own K (c, some (true, p))

/-- Signalling peer `p` hands over slot `p` of the own buffer. -/
theorem sig_op {Q : α → sProp 𝕄} {R : sProp 𝕄} (h : p ≠ c) {dev : Dev nD} {s : Sem sig} (hd : dev = p) (hs : s = barS)
    (hk : iprop(records own K ∗ SigSt c (p.val + 1) ∗ R) ⊢ WP c k Q) :
    iprop(records own K ∗ SigSt c p.val ∗ R) ⊢ WP c (semSignalWord dev s 1#32 >>= fun _ => k) Q := by
  subst hd hs
  have e : due c 0 (recvT c) + due c dev.val barT = (due c 0 (recvT c) + due c (dev.val + 1) barT) + barT dev := by
    rw [due_step h barT, add_assoc]
  unfold WP
  simp only [semSignalWord, Prog.bind_op, Prog.bind_ret]
  unfold SigSt owesE at *
  rw [prog_before h]
  rw [prog_after h] at hk
  iintro ⟨#HR, ⟨⟨%W, HO⟩, ⟨Ht, Hb⟩, Hrest⟩, HF⟩
  ihave #Hc := (records_bar own K dev) $$ HR
  icases Hc with ⟨#Hi, #Hr⟩
  iapply (Rounds.wp_signal 𝒱₀ ER (sched own) (c : Thread nD τ) none (dst := (dev : Thread nD τ)) (κ := K (dev, none))
      (d := c) (by rw [duties_bar]; exact Finset.mem_erase.mpr ⟨h.symm, Finset.mem_univ _⟩)
      (k' := (1#32 : BitVec 32).toInt.toNat) rfl () (due c 0 (recvT c) + due c (dev.val + 1) barT) e)
    $$ [HO Ht Hb]
  · isplitr; · iexact Hi
    isplitl [HO]; · iexact HO
    isplitl [Ht]; · iexact Ht
    isplitl [Hb]; · rw [payload_bar]; iexact Hb
    iexact Hr
  iintro HO
  iapply hk
  isplitr; · iexact HR
  isplitr [HF]
  · isplitl [HO]; · iexists W; iexact HO
    isplitr; · iempintro
    iexact Hrest
  iexact HF

theorem landed_slot (c : Dev nD) (fd : PBuf F) : ∀ i ∈ slotSet c,
    ((slotM c).view.write (Elt F) fd ((slotM c).view.read (Elt F) (gath own)) Finset.univ : PBuf F) i = gath own i := by
  intro i hi
  rw [View.write_read_eq_piecewise, View.setOn_univ]
  exact Finset.piecewise_eq_of_mem _ _ _ (by rw [slotM_set]; exact hi)

/-- Sending the own slot to peer `p` lends a share of it and fills slot `c` of `p`'s buffer. -/
theorem send_op {Q : α → sProp 𝕄} {R : sProp 𝕄} (h : p ≠ c) {dev : Dev nD} {src dst : Memref sig .tc .vmem S24x512 .bf16} {ss rs : DmaSem sig}
    (hd : dev = p) (hsrc : src = slotM c) (hdst : dst = slotM c) (hss : ss = sendS p) (hrs : rs = recvS c)
    {hsc : dst.view.ref.isScScratch = false} {ws : src.view.WordExact} {wd : dst.view.WordExact}
    {hsem : DmaTarget.Typed .vmem (.dma rs) (.remote (Dev.tc dev : Thread nD τ) dst (.dma ss) hsc)}
    (hk : iprop(records own K ∗ SendSt own c (p.val + 1) ∗ R) ⊢ WP c k Q) :
    iprop(records own K ∗ SendSt own c p.val ∗ R)
      ⊢ WP c (Prog.lift (.enqueueDma src (.remote (Dev.tc dev : Thread nD τ) dst (.dma ss) hsc) (.dma rs) ws wd hsem) >>= fun _ => k) Q := by
  subst hd hsrc hdst hss hrs
  unfold WP
  simp only [Prog.lift, Prog.bind_op, Prog.bind_ret]
  unfold SendSt owesE at *
  rw [prog_before h]
  rw [prog_after h] at hk
  iintro ⟨#HR, ⟨⟨%W, HO⟩, ⟨Hts, Htr, Hd, Hs⟩, Hrest⟩, HF⟩
  ihave #Hc := (records_send own K c dev) $$ HR
  icases Hc with ⟨#Hi, #Hr⟩
  ihave #Hc' := (records_recv own K dev c) $$ HR
  icases Hc' with ⟨#Hi', #Hr'⟩
  unfold bufPts
  rw [← slotM_set c]
  iapply (Rounds.wp_send_pointsTo 𝒱₀ ER (sched own) (c : Thread nD τ) none (c' := (dev : Thread nD τ)) (src := slotM c) (dst := slotM c)
    (κ₁ := K (c, some (false, dev))) (κ₂ := K (dev, some (true, c)))
    (r₁ := 0) (r₂ := 0) (d₁ := dev) (d₂ := c) (q := sh dev) (fs := gath own) (fd := (k0_pay1 (F := F)))
    (by rw [duties_send own c dev h]; exact Finset.mem_singleton_self _)
    (by rw [duties_recv own dev c h.symm]; exact Finset.mem_singleton_self _)
    () () N rfl rfl rfl (due c (dev.val + 1) (recvT c)) (due_step h (recvT c)) (W := W)
    (by rw [payload_send, slotM_set]; exact BI.Entails.refl _)
    (by
      rw [payload_recv, slotM_set]; unfold bufPts
      exact Entails.of_eq (pointsTo_congr fun i hi => landed_slot own c (k0_pay1 (F := F)) i hi))) $$ [HO Hts Htr Hd Hs]
  · isplitr; · iexact Hi
    isplitr; · iexact Hi'
    isplitl [Hs]; · iexact Hs
    isplitl [Hd]; · iexact Hd
    isplitl [HO]; · iexact HO
    isplitl [Hts]; · iexact Hts
    isplitr; · iexact Hr
    isplitl [Htr]; · iexact Htr
    iexact Hr'
  iintro ⟨Hcr, HO⟩
  iapply hk
  isplitr; · iexact HR
  isplitr [HF]
  · isplitl [HO]; · iexists W; iexact HO
    isplitl [Hcr]; · iexact Hcr
    unfold bufPts; rw [← slotM_set c]; iexact Hrest
  iexact HF

/-- Waiting for peer `p`'s transfer brings its slot, and the semaphore is spent. -/
theorem recv_op {Q : α → sProp 𝕄} {R : sProp 𝕄} (h : p ≠ c) {src dst : Memref sig .tc .vmem S24x512 .bf16} {rs : DmaSem sig}
    (hdst : dst = slotM p) (hrs : rs = recvS p) {ws : src.view.WordExact} {wd : dst.view.WordExact}
    (hk : iprop(records own K ∗ RecvSt own c (p.val + 1) ∗ R) ⊢ WP c k Q) :
    iprop(records own K ∗ RecvSt own c p.val ∗ R) ⊢ WP c (Prog.lift (.waitDma2 rs src dst ws wd) >>= fun _ => k) Q := by
  subst hdst hrs
  unfold WP
  simp only [Prog.lift, Prog.bind_op, Prog.bind_ret]
  unfold RecvSt owesE at *
  rw [prog_before h]
  rw [prog_after h] at hk
  iintro ⟨#HR, ⟨⟨%W, HO⟩, ⟨Hat, Hcr⟩, Hrest⟩, HF⟩
  ihave #Hc := (records_recv own K c p) $$ HR
  icases Hc with ⟨#Hi, #Hr⟩
  iapply (Rounds.wp_wait_rest_token 𝒱₀ ER (sched own) (c : Thread nD τ) none (κ := K (c, some (true, p)))
      (wpE_waitDma2_eq 𝒱₀ (c : Thread nD τ) none Set.univ) (Set.mem_univ _) () (O := 0) (W := W) (R := 0) (m := 0) (T := ∅)
      (by rw [Nat.zero_add, expect_recv own c p h])) $$ [HO Hat Hcr]
  · isplitr; · iexact Hi
    isplitl [Hcr]; · iexact Hcr
    isplitl [HO]; · iexact HO
    isplitr; · rw [MayWait_zero]; iempintro
    iexact Hat
  iintro ⟨HO, Hat, -, Hpay⟩
  ihave Hb := (Entails.of_eq (rest_recv own c p h)) $$ Hpay
  imod (Rounds.cell_close ER (sched own) (Set.mem_univ (K (c, some (true, p)))) (fun h => h) (R := 0 + 1) (duties_later own (recvCell c p))) $$ [Hat] with Hz
  · isplitr; · iexact Hi
    iexact Hat
  iapply hk
  isplitr; · iexact HR
  isplitr [HF]
  · isplitl [HO]; · iexists _; iexact HO
    isplitl [Hz Hb]
    · isplitl [Hz]; · iexact Hz
      iexact Hb
    iexact Hrest
  iexact HF

/-- Waiting for the transfer to peer `p` to have left brings the lent share back. -/
theorem left_op {Q : α → sProp 𝕄} {R : sProp 𝕄} (h : p ≠ c) {src dst : Memref sig .tc .vmem S24x512 .bf16} {ss : DmaSem sig}
    (hdst : dst = slotM c) (hss : ss = sendS p) {ws : src.view.WordExact} {wd : dst.view.WordExact}
    (hk : iprop(records own K ∗ LeftSt own c (p.val + 1) ∗ R) ⊢ WP c k Q) :
    iprop(records own K ∗ LeftSt own c p.val ∗ R) ⊢ WP c (Prog.lift (.waitDma2 ss src dst ws wd) >>= fun _ => k) Q := by
  subst hdst hss
  unfold WP
  simp only [Prog.lift, Prog.bind_op, Prog.bind_ret]
  unfold LeftSt owesE at *
  rw [prog_before h]
  rw [prog_after h] at hk
  iintro ⟨#HR, ⟨⟨%W, HO⟩, ⟨Hat, Hcr⟩, Hrest⟩, HF⟩
  ihave #Hc := (records_send own K c p) $$ HR
  icases Hc with ⟨#Hi, #Hr⟩
  iapply (Rounds.wp_wait_rest_token 𝒱₀ ER (sched own) (c : Thread nD τ) none (κ := K (c, some (false, p)))
      (wpE_waitDma2_eq 𝒱₀ (c : Thread nD τ) none Set.univ) (Set.mem_univ _) () (O := 0) (W := W) (R := 0) (m := 0) (T := ∅)
      (by rw [Nat.zero_add, expect_send own c p h])) $$ [HO Hat Hcr]
  · isplitr; · iexact Hi
    isplitl [Hcr]; · iexact Hcr
    isplitl [HO]; · iexact HO
    isplitr; · rw [MayWait_zero]; iempintro
    iexact Hat
  iintro ⟨HO, Hat, -, Hpay⟩
  ihave Hb := (Entails.of_eq (rest_send own c p h)) $$ Hpay
  imod (Rounds.cell_close ER (sched own) (Set.mem_univ (K (c, some (false, p)))) (fun h => h) (R := 0 + 1) (duties_later own (sendCell c p))) $$ [Hat] with Hz
  · isplitr; · iexact Hi
    iexact Hat
  iapply hk
  isplitr; · iexact HR
  isplitr [HF]
  · isplitl [HO]; · iexists _; iexact HO
    isplitl [Hz Hb]
    · isplitl [Hz]; · iexact Hz
      iexact Hb
    iexact Hrest
  iexact HF

/-! ## One peer, guarded -/

/-- Device `c`'s number as the body computes it. -/
abbrev meW (c : Dev nD) : BitVec 32 := Scalar.remsi (Scalar.divsi (Dev.word c) 1#32) 16#32

/-- The body's test that its `n`-th peer is another device. -/
abbrev guardW (n : ℕ) (c : Dev nD) : BitVec 1 :=
  Scalar.cmpi .ne (Scalar.extui (Scalar.cmpi .ne (meW c) (BitVec.ofNat 32 n)) : BitVec 32) 0#32

theorem guard_iff : ∀ p c : Dev nD, guardW p.val c = 1#1 ↔ p ≠ c := by decide +kernel

variable {n : ℕ}

theorem sig_step {Q : α → sProp 𝕄} {R : sProp 𝕄} {g : Dev nD → BitVec 1} (hn : n < 16) (hg : ∀ c, g c = guardW n c) {dev : g c = 1#1 → Dev nD} {s : Sem sig}
    (hd : ∀ h, dev h = ⟨n, hn⟩) (hs : s = barS)
    (hk : iprop(records own K ∗ SigSt c (n + 1) ∗ R) ⊢ WP c k Q) :
    iprop(records own K ∗ SigSt c n ∗ R) ⊢ WP c (if h : g c = 1#1 then semSignalWord (dev h) s 1#32 >>= fun _ => k else k) Q := by
  by_cases h : g c = 1#1
  · rw [dif_pos h]; exact sig_op own K (p := ⟨n, hn⟩) ((guard_iff ⟨n, hn⟩ c).mp ((hg c).symm.trans h)) (hd h) hs hk
  · rw [dif_neg h]
    have e : (⟨n, hn⟩ : Dev nD) = c := by by_contra hne; exact h ((hg c).trans ((guard_iff ⟨n, hn⟩ c).mpr hne))
    subst e; rw [show SigSt (F := F) ⟨n, hn⟩ n = SigSt ⟨n, hn⟩ (n + 1) from SigSt_skip _]; exact hk

theorem send_step {Q : α → sProp 𝕄} {R : sProp 𝕄} {g : Dev nD → BitVec 1} (hn : n < 16) (hg : ∀ c, g c = guardW n c) {dev : g c = 1#1 → Dev nD}
    {src dst : g c = 1#1 → Memref sig .tc .vmem S24x512 .bf16} {ss rs : g c = 1#1 → DmaSem sig}
    (hd : ∀ h, dev h = ⟨n, hn⟩) (hsrc : ∀ h, src h = slotM c) (hdst : ∀ h, dst h = slotM c) (hss : ∀ h, ss h = sendS ⟨n, hn⟩) (hrs : ∀ h, rs h = recvS c)
    {hsc : ∀ h, (dst h).view.ref.isScScratch = false} {ws : ∀ h, (src h).view.WordExact} {wd : ∀ h, (dst h).view.WordExact}
    {hsem : ∀ h, DmaTarget.Typed .vmem (.dma (rs h)) (.remote (Dev.tc (dev h) : Thread nD τ) (dst h) (.dma (ss h)) (hsc h))}
    (hk : iprop(records own K ∗ SendSt own c (n + 1) ∗ R) ⊢ WP c k Q) :
    iprop(records own K ∗ SendSt own c n ∗ R)
      ⊢ WP c (if h : g c = 1#1 then
          Prog.lift (.enqueueDma (src h) (.remote (Dev.tc (dev h) : Thread nD τ) (dst h) (.dma (ss h)) (hsc h)) (.dma (rs h)) (ws h) (wd h) (hsem h)) >>= fun _ => k
        else k) Q := by
  by_cases h : g c = 1#1
  · rw [dif_pos h]; exact send_op own K (p := ⟨n, hn⟩) ((guard_iff ⟨n, hn⟩ c).mp ((hg c).symm.trans h)) (hd h) (hsrc h) (hdst h) (hss h) (hrs h) hk
  · rw [dif_neg h]
    have e : (⟨n, hn⟩ : Dev nD) = c := by by_contra hne; exact h ((hg c).trans ((guard_iff ⟨n, hn⟩ c).mpr hne))
    subst e; rw [show SendSt own ⟨n, hn⟩ n = SendSt own ⟨n, hn⟩ (n + 1) from SendSt_skip own _]; exact hk

theorem recv_step {Q : α → sProp 𝕄} {R : sProp 𝕄} {g : Dev nD → BitVec 1} (hn : n < 16) (hg : ∀ c, g c = guardW n c)
    {src dst : g c = 1#1 → Memref sig .tc .vmem S24x512 .bf16} {rs : g c = 1#1 → DmaSem sig}
    (hdst : ∀ h, dst h = slotM ⟨n, hn⟩) (hrs : ∀ h, rs h = recvS ⟨n, hn⟩) {ws : ∀ h, (src h).view.WordExact} {wd : ∀ h, (dst h).view.WordExact}
    (hk : iprop(records own K ∗ RecvSt own c (n + 1) ∗ R) ⊢ WP c k Q) :
    iprop(records own K ∗ RecvSt own c n ∗ R)
      ⊢ WP c (if h : g c = 1#1 then Prog.lift (.waitDma2 (rs h) (src h) (dst h) (ws h) (wd h)) >>= fun _ => k else k) Q := by
  by_cases h : g c = 1#1
  · rw [dif_pos h]; exact recv_op own K (p := ⟨n, hn⟩) ((guard_iff ⟨n, hn⟩ c).mp ((hg c).symm.trans h)) (hdst h) (hrs h) hk
  · rw [dif_neg h]
    have e : (⟨n, hn⟩ : Dev nD) = c := by by_contra hne; exact h ((hg c).trans ((guard_iff ⟨n, hn⟩ c).mpr hne))
    subst e; rw [show RecvSt own ⟨n, hn⟩ n = RecvSt own ⟨n, hn⟩ (n + 1) from RecvSt_skip own _]; exact hk

theorem left_step {Q : α → sProp 𝕄} {R : sProp 𝕄} {g : Dev nD → BitVec 1} (hn : n < 16) (hg : ∀ c, g c = guardW n c)
    {src dst : g c = 1#1 → Memref sig .tc .vmem S24x512 .bf16} {ss : g c = 1#1 → DmaSem sig}
    (hdst : ∀ h, dst h = slotM c) (hss : ∀ h, ss h = sendS ⟨n, hn⟩) {ws : ∀ h, (src h).view.WordExact} {wd : ∀ h, (dst h).view.WordExact}
    (hk : iprop(records own K ∗ LeftSt own c (n + 1) ∗ R) ⊢ WP c k Q) :
    iprop(records own K ∗ LeftSt own c n ∗ R)
      ⊢ WP c (if h : g c = 1#1 then Prog.lift (.waitDma2 (ss h) (src h) (dst h) (ws h) (wd h)) >>= fun _ => k else k) Q := by
  by_cases h : g c = 1#1
  · rw [dif_pos h]; exact left_op own K (p := ⟨n, hn⟩) ((guard_iff ⟨n, hn⟩ c).mp ((hg c).symm.trans h)) (hdst h) (hss h) hk
  · rw [dif_neg h]
    have e : (⟨n, hn⟩ : Dev nD) = c := by by_contra hne; exact h ((hg c).trans ((guard_iff ⟨n, hn⟩ c).mpr hne))
    subst e; rw [show LeftSt own ⟨n, hn⟩ n = LeftSt own ⟨n, hn⟩ (n + 1) from LeftSt_skip own _]; exact hk

end Ops

end Cert.Exchange
-- ==== Proof.Contents.lean ====
/-
# 01_k: what one device's buffers hold

From the three staged inputs of device `c` — the tokens `x`, the routing `i`, its four experts' weights `w` — the ranks it
stores, its own slot of the receive buffer, and, from a full receive buffer, its result block.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev XBuf (F : FTy → Type) : Type := (cc0_stg0_0 : Ref sig .tc).ty.Contents (Elt F)
abbrev IBuf (F : FTy → Type) : Type := (cc0_stg1_0 : Ref sig .tc).ty.Contents (Elt F)
abbrev WBuf (F : FTy → Type) : Type := (cc0_stg2_0 : Ref sig .tc).ty.Contents (Elt F)
abbrev OBuf (F : FTy → Type) : Type := (cc0_stg3_0 : Ref sig .tc).ty.Contents (Elt F)
abbrev RBuf (F : FTy → Type) : Type := (cc0_scratch1 : Ref sig .tc).ty.Contents (Elt F)

abbrev iota64 : IVec S512x64 32 := iota .tc S512x64 32 [1] iota_S512x64_d1_w32
abbrev iota24 : IVec S512x24 32 := iota .tc S512x24 32 [1] iota_S512x24_d1_w32

variable (c : Dev nD) (x : XBuf F) (i : IBuf F) (w : WBuf F)

/-- The routing as the body uses it. -/
def routeV : IVec S512x1 32 := k0_pay2 (F := F) i
/-- The ranks: for each token, how many tokens up to and including it go to its expert. -/
def rankV : IVec S512x1 32 := k0_pay3 (F := F) (routeV (F := F) i) iota64
/-- The ranks as stored. -/
def rankBuf : RBuf F := k0_pay4 (F := F) (routeV (F := F) i) iota64
def xV : FVec F S512x256 .f32 := k0_pay5 x
/-- The number of the device's first expert. -/
abbrev firstE : BitVec 32 := Scalar.muli (meW c) 4#32

/-- Which token fills which of the device's 24 rows: a 0/1 table. -/
def selV : FVec F S512x24 .f32 := k0_pay7 (F := F) (routeV (F := F) i) (rankV i) iota24 (firstE c) k0_pay6

/-- Expert `k`'s weights, as a load reads them. -/
abbrev wRect0 : Rect S4x256x512 := Rect.unit (s := S4x256x512) ![0, 0, 0] S1x256x512.size inb_S4x256x512_S1x256x512_0_0_0
abbrev wRect1 : Rect S4x256x512 := Rect.unit (s := S4x256x512) ![1, 0, 0] S1x256x512.size inb_S4x256x512_S1x256x512_1_0_0
abbrev wRect2 : Rect S4x256x512 := Rect.unit (s := S4x256x512) ![2, 0, 0] S1x256x512.size inb_S4x256x512_S1x256x512_2_0_0
abbrev wRect3 : Rect S4x256x512 := Rect.unit (s := S4x256x512) ![3, 0, 0] S1x256x512.size inb_S4x256x512_S1x256x512_3_0_0
abbrev wAt (r : Rect S4x256x512) : r.shape.Idx → Elt F .f32 := (wM : Memref sig .tc .vmem S4x256x512 .f32).view.readAt (Elt F) r.toLoadRect w

/-- The rows the device stores for each of its four experts. -/
abbrev rows0 : FVec F S1x6x512 .bf16 := k0_pay8 (F := F) (routeV (F := F) i) (rankV i) (xV x) iota24 (firstE c) k0_pay6 (wAt w wRect0)
abbrev rows1 : FVec F S1x6x512 .bf16 :=
  k0_pay11 (k0_pay9 (F := F) (routeV (F := F) i) (rankV i) (xV x) iota24 (firstE c) k0_pay6) (k0_pay10 (F := F) (wAt w wRect1))
abbrev rows2 : FVec F S1x6x512 .bf16 := k0_pay12 (F := F) (xV x) (selV c i) (wAt w wRect2)
abbrev rows3 : FVec F S1x6x512 .bf16 := k0_pay13 (F := F) (xV x) (selV c i) (wAt w wRect3)

abbrev pRect1 : Rect S16x32x512 := Rect.unit (s := S16x32x512) (k0_off1 c) S1x6x512.size (k0_off1_inb c)
abbrev pRect2 : Rect S16x32x512 := Rect.unit (s := S16x32x512) (k0_off2 c) S1x6x512.size (k0_off2_inb c)
abbrev pRect3 : Rect S16x32x512 := Rect.unit (s := S16x32x512) (k0_off3 c) S1x6x512.size (k0_off3_inb c)
abbrev pRect4 : Rect S16x32x512 := Rect.unit (s := S16x32x512) (k0_off4 c) S1x6x512.size (k0_off4_inb c)

abbrev put (f : PBuf F) (r : Rect S16x32x512) (v : r.shape.Idx → Elt F .bf16) : PBuf F :=
  ((pM : Memref sig .tc .vmem S16x32x512 .bf16).access r : View sig .tc _ _ _).write (Elt F) f v Finset.univ

/-- The receive buffer as device `c` leaves it before sending: zero, but for the 24 rows of its own slot. -/
def own1 : PBuf F := put (k0_pay1 (F := F)) (pRect1 c) (rows0 c x i w)
def ownOf : PBuf F := put (put (put (own1 c x i w) (pRect2 c) (rows1 c x i w)) (pRect3 c) (rows2 c x i w)) (pRect4 c) (rows3 c x i w)

/-- The rows of the routing and of the ranks that the result block is about. -/
abbrev rRect : Rect S512x1 := Rect.unit (s := S512x1) (k0_off37 c) S32x1.size (k0_off37_inb c)
abbrev iAt : rRect c |>.shape.Idx → Elt F .i32 := (iM : Memref sig .tc .vmem S512x1 .i32).view.readAt (Elt F) (rRect c).toLoadRect i
abbrev rAt (r : RBuf F) : rRect c |>.shape.Idx → Elt F .i32 := (rM : Memref sig .tc .vmem S512x1 .i32).view.readAt (Elt F) (rRect c).toLoadRect r

/-- The result block from the full receive buffer `g`. -/
def outOf (g : PBuf F) : OBuf F :=
  k0_pay20 (F := F) (rAt c (rankBuf i)) (k0_pay15 (F := F) (rAt c (rankBuf i))) (k0_pay16 (F := F) (iAt c i))
    (Scalar.select (Scalar.cmpi .eq 4#32 0#32) 1#32 4#32) (k0_pay17 (F := F) (iAt c i)) (k0_pay18 (F := F) (iAt c i)) (k0_pay19 (F := F) (iAt c i)) 0#32 g

/-! ## Where the stores go -/

theorem pRect1_sub : (pRect1 c).set ⊆ slotSet c := by
  intro j hj
  have h := Rect.mem_set_unit.mp hj
  have h0 := h 0; have h1 := h 1
  rw [k0_off1_eq] at h0 h1
  simp [S1x6x512] at h0 h1
  exact mem_slotSet.mpr (by omega)
theorem pRect2_sub : (pRect2 c).set ⊆ slotSet c := by
  intro j hj
  have h := Rect.mem_set_unit.mp hj
  have h0 := h 0; have h1 := h 1
  rw [k0_off2_eq] at h0 h1
  simp [S1x6x512] at h0 h1
  exact mem_slotSet.mpr (by omega)
theorem pRect3_sub : (pRect3 c).set ⊆ slotSet c := by
  intro j hj
  have h := Rect.mem_set_unit.mp hj
  have h0 := h 0; have h1 := h 1
  rw [k0_off3_eq] at h0 h1
  simp [S1x6x512] at h0 h1
  exact mem_slotSet.mpr (by omega)
theorem pRect4_sub : (pRect4 c).set ⊆ slotSet c := by
  intro j hj
  have h := Rect.mem_set_unit.mp hj
  have h0 := h 0; have h1 := h 1
  rw [k0_off4_eq] at h0 h1
  simp [S1x6x512] at h0 h1
  exact mem_slotSet.mpr (by omega)

theorem access_set (r : Rect S16x32x512) : ((pM : Memref sig .tc .vmem S16x32x512 .bf16).access r : View sig .tc _ _ _).setOn Finset.univ = r.set :=
  View.set_slice_whole cc0_scratch0 r
theorem load_set (r : Rect S16x32x512) : (pM : Memref sig .tc .vmem S16x32x512 .bf16).view.setOn r.set = r.set := by
  show (View.whole cc0_scratch0).setOn r.set = r.set
  ext j; unfold View.setOn; simp

/-- A store leaves the elements outside its rectangle. -/
theorem put_off (f : PBuf F) (r : Rect S16x32x512) (v) {j : Shape.Idx S16x32x512} (hj : j ∉ r.set) : put f r v j = f j :=
  View.write_of_not_mem _ _ _ (by rw [access_set]; exact hj)

/-- Off its own slot a device's buffer is zero. -/
theorem ownOf_off {j : Shape.Idx S16x32x512} (hj : j ∉ slotSet c) : ownOf c x i w j = k0_pay1 (F := F) j := by
  unfold ownOf own1
  rw [put_off _ _ _ (fun h => hj (pRect4_sub c h)), put_off _ _ _ (fun h => hj (pRect3_sub c h)), put_off _ _ _ (fun h => hj (pRect2_sub c h)),
    put_off _ _ _ (fun h => hj (pRect1_sub c h))]

end Cert.Exchange
-- ==== Proof.Parts.lean ====
/-
# 01_k: the body, part by part

Each lemma runs one part of the body on device `c` from what it needs to what it leaves, beside anything else held.
-/
module

public import proofs.«01_k».proof.Proof.Contents

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Splitting the receive buffer -/

/-- The elements of the buffer outside every slot's first 24 rows. -/
def restSet : Finset (Shape.Idx S16x32x512) := Finset.univ \ Finset.univ.biUnion slotSet

theorem not_slot_of_rest {p : Dev nD} {j : Shape.Idx S16x32x512} (h : j ∈ restSet) : j ∉ slotSet p := fun hp =>
  (Finset.mem_sdiff.mp h).2 (Finset.mem_biUnion.mpr ⟨p, Finset.mem_univ _, hp⟩)

omit [FloatOps F] in
theorem buf_split (c : Dev nD) (q : PosShare TreeShare) (f : PBuf F) :
    (bufPts c Finset.univ q f : sProp 𝕄) = iprop((bigSep Finset.univ fun p => bufPts c (slotSet p) q f) ∗ bufPts c restSet q f) := by
  have h := pointsTo_split_subset (ℓ := (c : Thread nD τ).loc cc0_scratch0) (q := q) (f := f) (Ix := Unit) (Name := ℕ) (U := UU) (Lvl := ℕ)
    (Finset.subset_univ (Finset.univ.biUnion slotSet : Finset (Shape.Idx S16x32x512)))
  have h2 := pointsTo_biUnion (ℓ := (c : Thread nD τ).loc cc0_scratch0) (q := q) (f := f) (Ix := Unit) (Name := ℕ) (U := UU) (Lvl := ℕ)
    (Finset.univ : Finset (Dev nD)) slotSet (fun _ _ _ _ => slotSet_disjoint)
  unfold bufPts restSet
  rw [← h2]
  exact BI.Entails.antisymm h.1 h.2

/-- The shares of a holding that go with the other devices. -/
def others (c : Dev nD) (I : Finset (Shape.Idx S16x32x512)) (f : PBuf F) : sProp 𝕄 :=
  bigSep (Finset.univ.erase c) fun q => bufPts c I (sh q) f

omit [FloatOps F] in
theorem share_split (c : Dev nD) (I) (f : PBuf F) : (bufPts c I fullShare f : sProp 𝕄) = iprop(bufPts c I (sh c) f ∗ others c I f) := by
  rw [bufPts_shares, bigSep_univ_at _ c]; rfl

/-- The full receive buffer held at the own share, and the rest of what is held then. -/
def keep (c : Dev nD) (g : PBuf F) : sProp 𝕄 :=
  iprop((bigSep (Finset.univ.erase c) fun p => others c (slotSet p) g) ∗ others c restSet g)

omit [FloatOps F] in
theorem gather_buf (c : Dev nD) (g : PBuf F) :
    (iprop((bigSep (Finset.univ.erase c) fun p => bufPts c (slotSet p) fullShare g) ∗ bufPts c (slotSet c) (sh c) g ∗ bufPts c restSet fullShare g) : sProp 𝕄)
      = iprop(bufPts c Finset.univ (sh c) g ∗ keep c g) := by
  rw [buf_split c (sh c) g, bigSep_univ_at _ c, share_split c restSet g, bigSep_congr fun p _ => share_split c (slotSet p) g, bigSep_sep']
  unfold keep
  refine BI.Entails.antisymm (show _ ⊢ (_ : sProp 𝕄) from ?_) (show _ ⊢ (_ : sProp 𝕄) from ?_)
  · iintro ⟨⟨Ha, Hb⟩, Hc, Hd, He⟩
    isplitl [Ha Hc Hd]
    · isplitl [Ha Hc]
      · isplitl [Hc]; · iexact Hc
        iexact Ha
      iexact Hd
    isplitl [Hb]; · iexact Hb
    iexact He
  · iintro ⟨⟨⟨Hc, Ha⟩, Hd⟩, Hb, He⟩
    isplitl [Ha Hb]
    · isplitl [Ha]; · iexact Ha
      iexact Hb
    isplitl [Hc]; · iexact Hc
    isplitl [Hd]; · iexact Hd
    iexact He

omit [FloatOps F] in
/-- Everything back: the whole buffer. -/
theorem whole_buf (c : Dev nD) (g : PBuf F) :
    (iprop(bufPts c Finset.univ (sh c) g ∗ keep c g ∗ others c (slotSet c) g) : sProp 𝕄) ⊢ bufPts c Finset.univ fullShare g := by
  have h := gather_buf c g
  rw [buf_split c fullShare g, bigSep_univ_at _ c, share_split c (slotSet c) g]
  iintro ⟨Ha, Hb, Hc⟩
  ihave H := (Entails.of_eq h.symm) $$ [Ha Hb]
  · isplitl [Ha]; · iexact Ha
    iexact Hb
  icases H with ⟨H1, H2, H3⟩
  isplitr [H3]
  · isplitl [H2 Hc]
    · isplitl [H2]; · iexact H2
      iexact Hc
    iexact H1
  iexact H3

/-! ## Single operations -/

section Ops
variable (c : Dev nD) {α : Type}

theorem pure_wp {Q : α → sProp 𝕄} {a : α} {P : sProp 𝕄} (h : P ⊢ Q a) : P ⊢ WP c (pure a) Q := by
  unfold WP; rw [Prog.pure_eq_ret, wp_ret]; exact h.trans fupd_intro

theorem bind_wp {β : Type} {p : Prog (TpuEff nD τ sig (Elt F) Λ₀ .tc) β} {k : β → Prog (TpuEff nD τ sig (Elt F) Λ₀ .tc) α} {Q : α → sProp 𝕄} {P : sProp 𝕄}
    (h : P ⊢ WP c p fun a => WP c (k a) Q) : P ⊢ WP c (p >>= k) Q := by
  unfold WP at *; rw [wp_bind]; exact h

theorem device_step {k : Dev nD → Prog (TpuEff nD τ sig (Elt F) Λ₀ .tc) α} {Q : α → sProp 𝕄} {P : sProp 𝕄}
    (h : P ⊢ WP c (k c) Q) : P ⊢ WP c (Prog.lift .deviceId >>= k) Q := by
  unfold WP at *; simp only [Prog.lift, Prog.bind_op, Prog.bind_ret, wp_deviceId]; exact h

theorem load_step {cs : CoreSpace} {s : Shape} {e : EltTy} {m : Memref sig .tc cs s e} {r : LoadRect s} {hl : m.view.LoadsAt r}
    {k : (r.shape.Idx → Elt F e) → Prog (TpuEff nD τ sig (Elt F) Λ₀ .tc) α} {Q : α → sProp 𝕄} {P : sProp 𝕄} (R : sProp 𝕄)
    {S : Finset (Idx (m.view.loc (c : Thread nD τ)))} {q : PosShare TreeShare} {f : Buf (Elt F) (m.view.loc (c : Thread nD τ))}
    (v : r.shape.Idx → Elt F e) (hS : m.view.setOn r.set ⊆ S) (hv : m.view.readAt (Elt F) r f = v)
    (hP : P ⊢ iprop((m.view.loc (c : Thread nD τ) ↦[S]{q} f) ∗ R))
    (h : iprop((m.view.loc (c : Thread nD τ) ↦[S]{q} f) ∗ R) ⊢ WP c (k v) Q) : P ⊢ WP c (Prog.lift (.load m r hl) >>= k) Q := by
  subst hv
  unfold WP at *; simp only [Prog.lift, Prog.bind_op, Prog.bind_ret]
  refine hP.trans ?_
  iintro ⟨Hm, HR⟩
  iapply (wp_load 𝒱₀ (c : Thread nD τ) none Set.univ (m := m) hS) $$ Hm
  iintro Hm
  iapply h
  isplitl [Hm]; · iexact Hm
  iexact HR

theorem store_step {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {Q : α → sProp 𝕄} {P : sProp 𝕄} (R : sProp 𝕄)
    {S : Finset (Idx ((m.access r).loc (c : Thread nD τ)))} {f : Buf (Elt F) ((m.access r).loc (c : Thread nD τ))}
    (f' : Buf (Elt F) ((m.access r).loc (c : Thread nD τ)))
    (hS : (m.access r).setOn Finset.univ ⊆ S) (hw : (m.access r).write (Elt F) f w Finset.univ = f')
    (hP : P ⊢ iprop(((m.access r).loc (c : Thread nD τ) ↦[S]{fullShare} f) ∗ R))
    (h : iprop(((m.access r).loc (c : Thread nD τ) ↦[S]{fullShare} f') ∗ R) ⊢ WP c (k ⟨⟩) Q) :
    P ⊢ WP c (Prog.lift (.store m r w Finset.univ hx hm) >>= k) Q := by
  subst hw
  unfold WP at *; simp only [Prog.lift, Prog.bind_op, Prog.bind_ret]
  refine hP.trans ?_
  iintro ⟨Hm, HR⟩
  iapply (wp_store 𝒱₀ (c : Thread nD τ) none Set.univ (m := m) (r := r) (Mk := Finset.univ) hS) $$ Hm
  iintro Hm
  iapply h
  isplitl [Hm]; · iexact Hm
  iexact HR

end Ops

/-- The whole buffer behind `b` on device `c`, holding `X`. -/
abbrev refPts (c : Dev nD) (b : Ref sig .tc) (X : b.ty.Contents (Elt F)) : sProp 𝕄 := ((c : Thread nD τ).loc b) ↦{fullShare} X

theorem hz2 : (![0, 0] : Fin 2 → ℕ) = fun _ => 0 := funext fun a => by fin_cases a <;> rfl
theorem hz3 : (![0, 0, 0] : Fin 3 → ℕ) = fun _ => 0 := funext fun a => by fin_cases a <;> rfl

variable (own : Dev nD → PBuf F) (K : Dev nD × CIx → ℕ) (c : Dev nD) (x : XBuf F) (i : IBuf F) (w : WBuf F)

/-- Waiting for all the other devices' signals brings their slots for this device. -/
theorem bar_op {α : Type} {k : Prog (TpuEff nD τ sig (Elt F) Λ₀ .tc) α} {Q : α → sProp 𝕄} {R : sProp 𝕄} {s : Sem sig} (hs : s = barS)
    (hk : iprop(records own K ∗ (owesE c (due c 0 (recvT c)) ∗ semVal (barCell c) 0
        ∗ bigSep (Finset.univ.erase c) fun p => bufPts p (slotSet c) fullShare (k0_pay1 (F := F))) ∗ R) ⊢ WP c k Q) :
    iprop(records own K ∗ SigSt c 16 ∗ (atPos ER (barCell c) 0 ∅ 0 ∗ cred (tallyAt (barCell c) () 15) ∗ levAts L lv) ∗ R)
      ⊢ WP c (semWaitWord s 15#32 >>= fun _ => k) Q := by
  subst hs
  unfold WP
  simp only [semWaitWord, Prog.lift, Prog.bind_op, Prog.bind_ret]
  unfold SigSt owesE at *
  rw [due_last, add_zero, prog_last]
  iintro ⟨#HR, ⟨⟨%W, HO⟩, -⟩, ⟨Hat, Hcr, #Hlev⟩, HF⟩
  ihave #Hc := (records_bar own K c) $$ HR
  icases Hc with ⟨#Hi, #Hr⟩
  iapply (Rounds.wp_wait_rest_token 𝒱₀ ER (sched own) (c : Thread nD τ) none (κ := K (c, none))
      (wpE_semWait_eq 𝒱₀ (c : Thread nD τ) none Set.univ) (Set.mem_univ _) () (O := due c 0 (recvT c)) (W := W) (R := 0) (m := 0) (T := ∅)
      (by rw [expect_bar]; decide)) $$ [HO Hat Hcr]
  · isplitr; · iexact Hi
    isplitl [Hcr]; · iexact Hcr
    isplitl [HO]; · iexact HO
    isplitr; · iapply (mayWait_bar c); iexact Hlev
    iexact Hat
  iintro ⟨HO, Hat, -, Hpay⟩
  ihave Hb := (Entails.of_eq (rest_bar own c)) $$ Hpay
  imod (Rounds.cell_close ER (sched own) (Set.mem_univ (K (c, none))) (fun h => h) (R := 0 + 1) (duties_later own (barCell c))) $$ [Hat] with Hz
  · isplitr; · iexact Hi
    iexact Hat
  iapply hk
  isplitr; · iexact HR
  isplitr [HF]
  · isplitl [HO]; · iexists _; iexact HO
    isplitl [Hz]; · iexact Hz
    iexact Hb
  iexact HF

-- The peers' tests stay folded: nothing is gained by evaluating them at a symbolic device.
attribute [local irreducible] Scalar.cmpi Scalar.divsi Scalar.remsi

/-! ## Parts 1 and 2: zeroing the buffer and the barrier -/

theorem part1 {Q : (Σ' (d0 : Dev nD) (v2 : BitVec 32) (v7 : Sems sig S_), BitVec 1) → sProp 𝕄} {R : sProp 𝕄} (f0 : PBuf F)
    (hk : iprop(records own K ∗ SigSt c 7 ∗ (bufPts c (slotSet c) fullShare (k0_pay1 (F := F)) ∗ bufPts c restSet fullShare (k0_pay1 (F := F)) ∗ R))
      ⊢ Q ⟨c, meW c, SemArray.scalar (sig.barrier 0 rfl), Scalar.cmpi .ne (meW c) 7#32⟩) :
    iprop(records own K ∗ (owesE c (O₀ c) ∗ bufPts c Finset.univ fullShare f0 ∗ bigSep (Finset.univ.erase c) fun p => dutyTok ER (barCell p) 0 c) ∗ R)
      ⊢ WP c (k0_part1 (F := F) xM (Memref.isWhole_whole _) iM (Memref.isWhole_whole _) wM (Memref.isWhole_whole _) oM (Memref.isWhole_whole _)
          pM (Memref.isWhole_whole _) rM (Memref.isWhole_whole _) cc0_scratch2 cc0_scratch3) Q := by
  rw [k0_part1_eq_skeleton]; unfold k0_part1_skel
  refine device_step c ?_
  refine load_step c (m := pM) (S := Finset.univ) (q := fullShare) (f := f0)
    iprop(records own K ∗ owesE c (O₀ c) ∗ (bigSep (Finset.univ.erase c) fun p => dutyTok ER (barCell p) 0 c) ∗ R) _ (Finset.subset_univ _) rfl ?_ ?_
  · iintro ⟨Hr, ⟨Ho, Hb, Ht⟩, HR⟩
    isplitl [Hb]; · unfold bufPts; iexact Hb
    isplitl [Hr]; · iexact Hr
    isplitl [Ho]; · iexact Ho
    isplitl [Ht]; · iexact Ht
    iexact HR
  refine store_step c (m := pM) _ (k0_pay1 (F := F)) (Finset.subset_univ _)
    (Memref.write_access_unit_zero_univ (Elt F) cc0_scratch0 hz3 _ f0 (k0_pay1 (F := F))) (BI.Entails.refl _) ?_
  have hstart : iprop((((c : Thread nD τ).loc cc0_scratch0) ↦{fullShare} (k0_pay1 (F := F) : PBuf F))
        ∗ records own K ∗ owesE c (O₀ c) ∗ (bigSep (Finset.univ.erase c) fun p => dutyTok ER (barCell p) 0 c) ∗ R)
      ⊢ iprop(records own K ∗ SigSt c 0 ∗ (bufPts c (slotSet c) fullShare (k0_pay1 (F := F)) ∗ bufPts c restSet fullShare (k0_pay1 (F := F)) ∗ R)) := by
    have hs := buf_split (F := F) c fullShare (k0_pay1 (F := F))
    rw [bigSep_univ_at _ c] at hs
    unfold SigSt
    rw [prog_first, bigSep_sep']
    iintro ⟨Hb, Hr, Ho, Ht, HR⟩
    ihave Hs := (Entails.of_eq hs) $$ [Hb]
    · unfold bufPts; iexact Hb
    icases Hs with ⟨⟨H1, H2⟩, H3⟩
    isplitl [Hr]; · iexact Hr
    isplitl [Ho Ht H2]
    · isplitl [Ho]; · unfold O₀; iexact Ho
      isplitl [Ht]; · iexact Ht
      iexact H2
    isplitl [H1]; · iexact H1
    isplitl [H3]; · iexact H3
    iexact HR
  refine hstart.trans ?_
  extract_lets
  iterate 7 refine sig_step own K (by decide) (by decide +kernel) (fun _ => Fin.ext (by dsimp only; decide +kernel)) rfl ?_
  exact pure_wp c hk

theorem part2 {Q : (Σ' (v57 : IVec S512x1 32), IVec S512x64 32) → sProp 𝕄} {R : sProp 𝕄}
    (hk : iprop(records own K ∗ (owesE c (due c 0 (recvT c)) ∗ semVal (barCell c) 0
        ∗ bigSep (Finset.univ.erase c) fun p => bufPts p (slotSet c) fullShare (k0_pay1 (F := F))) ∗ refPts c cc0_stg1_0 i ∗ R)
      ⊢ Q ⟨routeV (F := F) i, iota64⟩) :
    iprop(records own K ∗ SigSt c 7 ∗ (atPos ER (barCell c) 0 ∅ 0 ∗ cred (tallyAt (barCell c) () 15) ∗ levAts L lv) ∗ refPts c cc0_stg1_0 i ∗ R)
      ⊢ WP c (k0_part2 (F := F) xM (Memref.isWhole_whole _) iM (Memref.isWhole_whole _) wM (Memref.isWhole_whole _) oM (Memref.isWhole_whole _)
          pM (Memref.isWhole_whole _) rM (Memref.isWhole_whole _) cc0_scratch2 cc0_scratch3 c (meW c) (SemArray.scalar (sig.barrier 0 rfl)) (Scalar.cmpi .ne (meW c) 7#32)) Q := by
  rw [k0_part2_eq_skeleton]; unfold k0_part2_skel
  extract_lets
  iterate 9 refine sig_step own K (by decide) (by decide +kernel) (fun _ => Fin.ext (by dsimp only; decide +kernel)) rfl ?_
  refine bar_op own K c rfl ?_
  refine load_step c (m := iM) (S := Finset.univ) (q := fullShare) (f := i)
    iprop(records own K ∗ (owesE c (due c 0 (recvT c)) ∗ semVal (barCell c) 0
        ∗ bigSep (Finset.univ.erase c) fun p => bufPts p (slotSet c) fullShare (k0_pay1 (F := F))) ∗ R) i (Finset.subset_univ _)
    (Memref.readAt_unit_zero (Elt F) cc0_stg1_0 hz2 _ i) ?_ ?_
  · iintro ⟨Hr, Ho, Hi, HR⟩
    isplitl [Hi]; · iexact Hi
    isplitl [Hr]; · iexact Hr
    isplitl [Ho]; · iexact Ho
    iexact HR
  refine pure_wp c (BIBase.Entails.trans ?_ hk)
  iintro ⟨Hi, Hr, Ho, HR⟩
  isplitl [Hr]; · iexact Hr
  isplitl [Ho]; · iexact Ho
  isplitl [Hi]; · iexact Hi
  iexact HR

/-! ## Parts 3 to 5: the ranks and the own slot -/

theorem part3 {Q : (Σ' (v72 : IVec S512x1 32) (v77 : FVec F S512x256 .f32) (v78 : IVec S512x24 32) (v79 : BitVec 32), IVec S512x24 32) → sProp 𝕄}
    {R : sProp 𝕄} (r0 : RBuf F)
    (hk : iprop(refPts c cc0_scratch1 (rankBuf (F := F) i) ∗ refPts c cc0_stg0_0 x ∗ R) ⊢ Q ⟨rankV (F := F) i, xV x, iota24, firstE c, k0_pay6⟩) :
    iprop(refPts c cc0_scratch1 r0 ∗ refPts c cc0_stg0_0 x ∗ R)
      ⊢ WP c (k0_part3 (F := F) xM (Memref.isWhole_whole _) iM (Memref.isWhole_whole _) wM (Memref.isWhole_whole _) oM (Memref.isWhole_whole _)
          pM (Memref.isWhole_whole _) rM (Memref.isWhole_whole _) cc0_scratch2 cc0_scratch3 (meW c) (routeV (F := F) i) iota64) Q := by
  rw [k0_part3_eq_skeleton]; unfold k0_part3_skel
  refine load_step c (m := rM) (S := Finset.univ) (q := fullShare) (f := r0) iprop(refPts c cc0_stg0_0 x ∗ R) _ (Finset.subset_univ _) rfl (BI.Entails.refl _) ?_
  refine store_step c (m := rM) _ (rankBuf (F := F) i) (Finset.subset_univ _)
    (Memref.write_access_unit_zero_univ (Elt F) cc0_scratch1 hz2 _ r0 (rankBuf (F := F) i)) (BI.Entails.refl _) ?_
  refine load_step c (m := xM) (S := Finset.univ) (q := fullShare) (f := x) iprop(refPts c cc0_scratch1 (rankBuf (F := F) i) ∗ R) x (Finset.subset_univ _)
    (Memref.readAt_unit_zero (Elt F) cc0_stg0_0 hz2 _ x) ?_ ?_
  · iintro ⟨Hr, Hx, HR⟩
    isplitl [Hx]; · iexact Hx
    isplitl [Hr]; · iexact Hr
    iexact HR
  extract_lets
  refine pure_wp c (BIBase.Entails.trans ?_ hk)
  iintro ⟨Hx, Hr, HR⟩
  isplitl [Hr]; · iexact Hr
  isplitl [Hx]; · iexact Hx
  iexact HR

theorem part4 {Q : (Σ' (v130 : FVec F S512x24 .f32) (v142 : FVec F S6x256 .f32), FVec F S256x512 .f32) → sProp 𝕄} {R : sProp 𝕄}
    (hk : iprop(refPts c cc0_stg2_0 w ∗ bufPts c (slotSet c) fullShare (own1 c x i w) ∗ R)
      ⊢ Q ⟨selV c i, k0_pay9 (F := F) (routeV (F := F) i) (rankV (F := F) i) (xV x) iota24 (firstE c) k0_pay6, k0_pay10 (F := F) (wAt w wRect1)⟩) :
    iprop(refPts c cc0_stg2_0 w ∗ bufPts c (slotSet c) fullShare (k0_pay1 (F := F)) ∗ R)
      ⊢ WP c (k0_part4 (F := F) xM (Memref.isWhole_whole _) iM (Memref.isWhole_whole _) wM (Memref.isWhole_whole _) oM (Memref.isWhole_whole _)
          pM (Memref.isWhole_whole _) rM (Memref.isWhole_whole _) cc0_scratch2 cc0_scratch3 c (meW c) (routeV (F := F) i) (rankV (F := F) i) (xV x) iota24 (firstE c) k0_pay6) Q := by
  rw [k0_part4_eq_skeleton]; unfold k0_part4_skel
  refine load_step c (m := wM) (S := Finset.univ) (q := fullShare) (f := w)
    iprop(bufPts c (slotSet c) fullShare (k0_pay1 (F := F)) ∗ R) (wAt w wRect0) (Finset.subset_univ _) rfl (BI.Entails.refl _) ?_
  refine load_step c (m := pM) (S := slotSet c) (q := fullShare) (f := k0_pay1 (F := F)) iprop(refPts c cc0_stg2_0 w ∗ R) _
    ((load_set (pRect1 c)).trans_subset (pRect1_sub c)) rfl ?_ ?_
  · unfold bufPts; iintro ⟨Hw, Hb, HR⟩
    isplitl [Hb]; · iexact Hb
    isplitl [Hw]; · iexact Hw
    iexact HR
  refine store_step c (m := pM) _ (own1 c x i w) ((access_set (pRect1 c)).trans_subset (pRect1_sub c)) (by unfold own1; with_reducible rfl) (BI.Entails.refl _) ?_
  refine load_step c (m := wM) (S := Finset.univ) (q := fullShare) (f := w)
    iprop(bufPts c (slotSet c) fullShare (own1 c x i w) ∗ R) (wAt w wRect1) (Finset.subset_univ _) rfl ?_ ?_
  · unfold bufPts; iintro ⟨Hb, Hw, HR⟩
    isplitl [Hw]; · iexact Hw
    isplitl [Hb]; · iexact Hb
    iexact HR
  exact pure_wp c hk

/-- What device `c` holds to serve its peers, once its slot is filled. -/
theorem send_start (hown : own c = ownOf c x i w) {R : sProp 𝕄} :
    iprop(bufPts c (slotSet c) fullShare (ownOf c x i w) ∗ owesE c (due c 0 (recvT c))
        ∗ (bigSep (Finset.univ.erase c) fun p => dutyTok ER (sendCell c p) 0 p)
        ∗ (bigSep (Finset.univ.erase c) fun p => dutyTok ER (recvCell p c) 0 c)
        ∗ (bigSep (Finset.univ.erase c) fun p => bufPts p (slotSet c) fullShare (k0_pay1 (F := F))) ∗ R)
      ⊢ iprop(SendSt own c 0 ∗ bufPts c (slotSet c) (sh c) (gath own) ∗ R) := by
  have hg : (bufPts c (slotSet c) fullShare (ownOf c x i w) : sProp 𝕄) = bufPts c (slotSet c) fullShare (gath own) := by
    unfold bufPts
    exact pointsTo_congr fun j hj => by rw [gath_slot own hj, hown]
  have hs := share_split c (slotSet c) (gath own)
  unfold others at hs
  rw [hg, hs]
  unfold SendSt
  rw [prog_first, bigSep_sep', bigSep_sep', bigSep_sep']
  iintro ⟨⟨Hc, Hb⟩, Ho, H1, H2, H3, HR⟩
  isplitl [Ho Hb H1 H2 H3]
  · isplitl [Ho]; · iexact Ho
    isplitl [H1]; · iexact H1
    isplitl [H2]; · iexact H2
    isplitl [H3]; · iexact H3
    iexact Hb
  isplitl [Hc]; · iexact Hc
  iexact HR

theorem part5 (hown : own c = ownOf c x i w) {Q : BitVec 1 → sProp 𝕄} {R : sProp 𝕄}
    (hk : iprop(records own K ∗ SendSt own c 2 ∗ bufPts c (slotSet c) (sh c) (gath own) ∗ refPts c cc0_stg2_0 w ∗ R) ⊢ Q (Scalar.cmpi .ne (meW c) 2#32)) :
    iprop(refPts c cc0_stg2_0 w ∗ bufPts c (slotSet c) fullShare (own1 c x i w) ∗ records own K ∗ owesE c (due c 0 (recvT c))
        ∗ (bigSep (Finset.univ.erase c) fun p => dutyTok ER (sendCell c p) 0 p)
        ∗ (bigSep (Finset.univ.erase c) fun p => dutyTok ER (recvCell p c) 0 c)
        ∗ (bigSep (Finset.univ.erase c) fun p => bufPts p (slotSet c) fullShare (k0_pay1 (F := F))) ∗ R)
      ⊢ WP c (k0_part5 (F := F) xM (Memref.isWhole_whole _) iM (Memref.isWhole_whole _) wM (Memref.isWhole_whole _) oM (Memref.isWhole_whole _)
          pM (Memref.isWhole_whole _) rM (Memref.isWhole_whole _) cc0_scratch2 cc0_scratch3 c (meW c) (xV x) (selV c i)
          (k0_pay9 (F := F) (routeV (F := F) i) (rankV (F := F) i) (xV x) iota24 (firstE c) k0_pay6) (k0_pay10 (F := F) (wAt w wRect1))) Q := by
  rw [k0_part5_eq_skeleton]; unfold k0_part5_skel
  have hswap : ∀ (f : PBuf F) (R : sProp 𝕄), iprop((((c : Thread nD τ).loc cc0_scratch0) ↦[slotSet c]{fullShare} f) ∗ refPts c cc0_stg2_0 w ∗ R)
      ⊢ iprop(refPts c cc0_stg2_0 w ∗ (((c : Thread nD τ).loc cc0_scratch0) ↦[slotSet c]{fullShare} f) ∗ R) := fun f R => by
    iintro ⟨Hb, Hw, HR⟩
    isplitl [Hw]; · iexact Hw
    isplitl [Hb]; · iexact Hb
    iexact HR
  have hswap' : ∀ (f : PBuf F) (R : sProp 𝕄), iprop(refPts c cc0_stg2_0 w ∗ (((c : Thread nD τ).loc cc0_scratch0) ↦[slotSet c]{fullShare} f) ∗ R)
      ⊢ iprop((((c : Thread nD τ).loc cc0_scratch0) ↦[slotSet c]{fullShare} f) ∗ refPts c cc0_stg2_0 w ∗ R) := fun f R => by
    iintro ⟨Hw, Hb, HR⟩
    isplitl [Hb]; · iexact Hb
    isplitl [Hw]; · iexact Hw
    iexact HR
  refine load_step c (m := pM) (S := slotSet c) (q := fullShare) (f := own1 c x i w) _ _
    ((load_set (pRect2 c)).trans_subset (pRect2_sub c)) rfl (hswap' _ _) ?_
  refine store_step c (m := pM) _ _ ((access_set (pRect2 c)).trans_subset (pRect2_sub c)) rfl (BI.Entails.refl _) ?_
  refine load_step c (m := wM) (S := Finset.univ) (q := fullShare) (f := w) _ (wAt w wRect2) (Finset.subset_univ _) rfl (hswap _ _) ?_
  refine load_step c (m := pM) (S := slotSet c) (q := fullShare) _ _
    ((load_set (pRect3 c)).trans_subset (pRect3_sub c)) rfl (hswap' _ _) ?_
  refine store_step c (m := pM) _ _ ((access_set (pRect3 c)).trans_subset (pRect3_sub c)) rfl (BI.Entails.refl _) ?_
  refine load_step c (m := wM) (S := Finset.univ) (q := fullShare) (f := w) _ (wAt w wRect3) (Finset.subset_univ _) rfl (hswap _ _) ?_
  refine load_step c (m := pM) (S := slotSet c) (q := fullShare) _ _
    ((load_set (pRect4 c)).trans_subset (pRect4_sub c)) rfl (hswap' _ _) ?_
  refine store_step c (m := pM) _ (ownOf c x i w) ((access_set (pRect4 c)).trans_subset (pRect4_sub c)) (by unfold ownOf; with_reducible rfl) (BI.Entails.refl _) ?_
  refine BIBase.Entails.trans (Q := iprop(records own K ∗ SendSt own c 0 ∗ bufPts c (slotSet c) (sh c) (gath own) ∗ refPts c cc0_stg2_0 w ∗ R)) ?_ ?_
  · iintro ⟨Hb, Hw, Hr, Ho, H1, H2, H3, HR⟩
    isplitl [Hr]; · iexact Hr
    iapply (send_start own c x i w hown)
    isplitl [Hb]; · unfold bufPts; iexact Hb
    isplitl [Ho]; · iexact Ho
    isplitl [H1]; · iexact H1
    isplitl [H2]; · iexact H2
    isplitl [H3]; · iexact H3
    isplitl [Hw]; · iexact Hw
    iexact HR
  extract_lets
  iterate 2
    refine send_step own K (by decide) (by decide +kernel) (fun _ => Fin.ext (by dsimp only; decide +kernel)) (fun _ => slotM_of (k0_off6_eq c) _ _)
      (fun _ => slotM_of (k0_off6_eq c) _ _) (fun _ => sendS_of rfl _) (fun _ => recvS_of (k0_off5_eq c) _) ?_
  exact pure_wp c hk

end Cert.Exchange
-- ==== Proof.Parts2.lean ====
/-
# 01_k: the exchange and the result block

The rest of the body: sending to the other peers, receiving from all of them, the result block, and the end of the sends.
-/
module

public import proofs.«01_k».proof.Proof.Parts

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

-- The peers' tests stay folded: nothing is gained by evaluating them at a symbolic device.
attribute [local irreducible] Scalar.cmpi Scalar.divsi Scalar.remsi

variable (own : Dev nD → PBuf F) (K : Dev nD × CIx → ℕ) (c : Dev nD) (x : XBuf F) (i : IBuf F) (w : WBuf F)

/-! ## From one phase to the next -/

/-- All peers served, the device waits for what they send. -/
theorem recv_start {R : sProp 𝕄} :
    iprop(SendSt own c 16 ∗ (bigSep (Finset.univ.erase c) fun p => atPos ER (recvCell c p) 0 ∅ 0)
        ∗ (bigSep (Finset.univ.erase c) fun p => cred (tallyAt (recvCell c p) () N)) ∗ R)
      ⊢ iprop(RecvSt own c 0 ∗ (bigSep (Finset.univ.erase c) fun p => cred (tallyAt (sendCell c p) () N)) ∗ R) := by
  unfold SendSt RecvSt
  rw [prog_first, prog_last, due_last, bigSep_sep']
  iintro ⟨⟨Ho, Hs⟩, Ha, Hc, HR⟩
  isplitl [Ho Ha Hc]
  · isplitl [Ho]; · iexact Ho
    isplitl [Ha]; · iexact Ha
    iexact Hc
  isplitl [Hs]; · iexact Hs
  iexact HR

/-- Everything received, the buffer is held whole at the own share. -/
theorem recv_end (hoff : ∀ d j, j ∉ slotSet d → own d j = k0_pay1 (F := F) j) {R : sProp 𝕄} :
    iprop(RecvSt own c 16 ∗ bufPts c (slotSet c) (sh c) (gath own) ∗ bufPts c restSet fullShare (k0_pay1 (F := F)) ∗ R)
      ⊢ iprop(bufPts c Finset.univ (sh c) (gath own) ∗ keep c (gath own) ∗ owesE c 0
        ∗ (bigSep (Finset.univ.erase c) fun p => semVal (recvCell c p) 0) ∗ R) := by
  have hg : (bufPts c restSet fullShare (k0_pay1 (F := F)) : sProp 𝕄) = bufPts c restSet fullShare (gath own) := by
    unfold bufPts
    exact pointsTo_congr fun j hj => by unfold gath; rw [hoff _ _ (not_slot_of_rest hj)]
  have hs := Entails.of_eq (gather_buf c (gath own))
  unfold RecvSt
  rw [prog_last, hg, bigSep_sep']
  iintro ⟨⟨Ho, Hv, Hb⟩, Hc, Hr, HR⟩
  ihave H := hs $$ [Hb Hc Hr]
  · isplitl [Hb]; · iexact Hb
    isplitl [Hc]; · iexact Hc
    iexact Hr
  icases H with ⟨H1, H2⟩
  isplitl [H1]; · iexact H1
  isplitl [H2]; · iexact H2
  isplitl [Ho]; · iexact Ho
  isplitl [Hv]; · iexact Hv
  iexact HR

/-- The waits for the own transfers to have left begin. -/
theorem left_start {R : sProp 𝕄} :
    iprop(owesE c 0 ∗ (bigSep (Finset.univ.erase c) fun p => atPos ER (sendCell c p) 0 ∅ 0)
        ∗ (bigSep (Finset.univ.erase c) fun p => cred (tallyAt (sendCell c p) () N)) ∗ R)
      ⊢ iprop(LeftSt own c 0 ∗ R) := by
  unfold LeftSt
  rw [prog_first, bigSep_sep']
  iintro ⟨Ho, Ha, Hc, HR⟩
  isplitl [Ho Ha Hc]
  · isplitl [Ho]; · iexact Ho
    isplitl [Ha]; · iexact Ha
    iexact Hc
  iexact HR

/-! ## Parts 6 to 8: sending to the other peers and receiving from all -/

theorem part6 {Q : BitVec 1 → sProp 𝕄} {R : sProp 𝕄}
    (hk : iprop(records own K ∗ SendSt own c 12 ∗ R) ⊢ Q (Scalar.cmpi .ne (meW c) 12#32)) :
    iprop(records own K ∗ SendSt own c 2 ∗ R)
      ⊢ WP c (k0_part6 (F := F) xM (Memref.isWhole_whole _) iM (Memref.isWhole_whole _) wM (Memref.isWhole_whole _) oM (Memref.isWhole_whole _)
          pM (Memref.isWhole_whole _) rM (Memref.isWhole_whole _) cc0_scratch2 cc0_scratch3 c (meW c) (Scalar.cmpi .ne (meW c) 2#32)) Q := by
  rw [k0_part6_eq_skeleton]; unfold k0_part6_skel
  extract_lets
  iterate 10
    refine send_step own K (by decide) (by decide +kernel) (fun _ => Fin.ext (by dsimp only; decide +kernel)) (fun _ => slotM_of (k0_off6_eq c) _ _)
      (fun _ => slotM_of (k0_off6_eq c) _ _) (fun _ => sendS_of rfl _) (fun _ => recvS_of (k0_off5_eq c) _) ?_
  exact pure_wp c hk

theorem part7 {Q : BitVec 1 → sProp 𝕄} {R : sProp 𝕄}
    (hk : iprop(records own K ∗ RecvSt own c 6 ∗ (bigSep (Finset.univ.erase c) fun p => cred (tallyAt (sendCell c p) () N)) ∗ R)
      ⊢ Q (Scalar.cmpi .ne (meW c) 6#32)) :
    iprop(records own K ∗ SendSt own c 12 ∗ (bigSep (Finset.univ.erase c) fun p => atPos ER (recvCell c p) 0 ∅ 0)
        ∗ (bigSep (Finset.univ.erase c) fun p => cred (tallyAt (recvCell c p) () N)) ∗ R)
      ⊢ WP c (k0_part7 (F := F) xM (Memref.isWhole_whole _) iM (Memref.isWhole_whole _) wM (Memref.isWhole_whole _) oM (Memref.isWhole_whole _)
          pM (Memref.isWhole_whole _) rM (Memref.isWhole_whole _) cc0_scratch2 cc0_scratch3 c (meW c) (Scalar.cmpi .ne (meW c) 12#32)) Q := by
  rw [k0_part7_eq_skeleton]; unfold k0_part7_skel
  extract_lets
  iterate 4
    refine send_step own K (by decide) (by decide +kernel) (fun _ => Fin.ext (by dsimp only; decide +kernel)) (fun _ => slotM_of (k0_off6_eq c) _ _)
      (fun _ => slotM_of (k0_off6_eq c) _ _) (fun _ => sendS_of rfl _) (fun _ => recvS_of (k0_off5_eq c) _) ?_
  refine BIBase.Entails.trans (sep_mono_right (recv_start own c)) ?_
  iterate 6
    refine recv_step own K (g := guardW _) (by decide) (fun _ => rfl) (fun _ => slotM_of rfl _ _) (fun _ => recvS_of rfl _) ?_
  exact pure_wp c hk

theorem part8 {Q : BitVec 32 → sProp 𝕄} {R : sProp 𝕄} (hk : iprop(records own K ∗ RecvSt own c 16 ∗ R) ⊢ Q (Scalar.muli (meW c) 32#32)) :
    iprop(records own K ∗ RecvSt own c 6 ∗ R)
      ⊢ WP c (k0_part8 (F := F) xM (Memref.isWhole_whole _) iM (Memref.isWhole_whole _) wM (Memref.isWhole_whole _) oM (Memref.isWhole_whole _)
          pM (Memref.isWhole_whole _) rM (Memref.isWhole_whole _) cc0_scratch2 cc0_scratch3 (meW c) (Scalar.cmpi .ne (meW c) 6#32)) Q := by
  rw [k0_part8_eq_skeleton]; unfold k0_part8_skel
  extract_lets
  iterate 10
    refine recv_step own K (g := guardW _) (by decide) (fun _ => rfl) (fun _ => slotM_of rfl _ _) (fun _ => recvS_of rfl _) ?_
  exact pure_wp c hk

/-! ## Parts 9 to 11: the result block -/

theorem part9 {Q : (Σ' (v273 : Vec F S32x1 .i32) (v275 : IVec S32x1 1) (v301 : IVec S32x1 32) (v303 : BitVec 32) (v305 : IVec S32x1 32)
      (v307 : IVec S32x1 1) (v309 : IVec S32x1 1), BitVec 32) → sProp 𝕄} {R : sProp 𝕄}
    (hk : iprop(refPts c cc0_stg1_0 i ∗ refPts c cc0_scratch1 (rankBuf (F := F) i) ∗ R)
      ⊢ Q ⟨rAt c (rankBuf i), k0_pay15 (F := F) (rAt c (rankBuf i)), k0_pay16 (F := F) (iAt c i), Scalar.select (Scalar.cmpi .eq 4#32 0#32) 1#32 4#32,
        k0_pay17 (F := F) (iAt c i), k0_pay18 (F := F) (iAt c i), k0_pay19 (F := F) (iAt c i), 0#32⟩) :
    iprop(refPts c cc0_stg1_0 i ∗ refPts c cc0_scratch1 (rankBuf (F := F) i) ∗ R)
      ⊢ WP c (k0_part9 (F := F) xM (Memref.isWhole_whole _) iM (Memref.isWhole_whole _) wM (Memref.isWhole_whole _) oM (Memref.isWhole_whole _)
          pM (Memref.isWhole_whole _) rM (Memref.isWhole_whole _) cc0_scratch2 cc0_scratch3 c (meW c) (Scalar.muli (meW c) 32#32)) Q := by
  rw [k0_part9_eq_skeleton]; unfold k0_part9_skel
  refine load_step c (m := iM) (S := Finset.univ) (q := fullShare) (f := i) iprop(refPts c cc0_scratch1 (rankBuf (F := F) i) ∗ R) (iAt c i)
    (Finset.subset_univ _) rfl (BI.Entails.refl _) ?_
  refine load_step c (m := rM) (S := Finset.univ) (q := fullShare) (f := rankBuf (F := F) i) iprop(refPts c cc0_stg1_0 i ∗ R) (rAt c (rankBuf i))
    (Finset.subset_univ _) rfl ?_ ?_
  · iintro ⟨Hi, Hr, HR⟩
    isplitl [Hr]; · iexact Hr
    isplitl [Hi]; · iexact Hi
    iexact HR
  extract_lets
  refine pure_wp c (BIBase.Entails.trans ?_ hk)
  iintro ⟨Hr, Hi, HR⟩
  isplitl [Hi]; · iexact Hi
  isplitl [Hr]; · iexact Hr
  iexact HR

theorem part10 (o0 : OBuf F) {Q : BitVec 32 → sProp 𝕄} {R : sProp 𝕄}
    (hk : iprop(records own K ∗ LeftSt own c 4 ∗ bufPts c Finset.univ (sh c) (gath own) ∗ refPts c cc0_stg3_0 (outOf c i (gath own)) ∗ R) ⊢ Q 4#32) :
    iprop(bufPts c Finset.univ (sh c) (gath own) ∗ refPts c cc0_stg3_0 o0 ∗ records own K ∗ LeftSt own c 0 ∗ R)
      ⊢ WP c (k0_part10 (F := F) xM (Memref.isWhole_whole _) iM (Memref.isWhole_whole _) wM (Memref.isWhole_whole _) oM (Memref.isWhole_whole _)
          pM (Memref.isWhole_whole _) rM (Memref.isWhole_whole _) cc0_scratch2 cc0_scratch3 c (meW c) (rAt c (rankBuf i)) (k0_pay15 (F := F) (rAt c (rankBuf i))) (k0_pay16 (F := F) (iAt c i))
          (Scalar.select (Scalar.cmpi .eq 4#32 0#32) 1#32 4#32) (k0_pay17 (F := F) (iAt c i)) (k0_pay18 (F := F) (iAt c i))
          (k0_pay19 (F := F) (iAt c i)) 0#32) Q := by
  rw [k0_part10_eq_skeleton]; unfold k0_part10_skel
  refine load_step c (m := pM) (S := Finset.univ) (q := sh c) (f := gath own)
    iprop(refPts c cc0_stg3_0 o0 ∗ records own K ∗ LeftSt own c 0 ∗ R) (gath own)
    (Finset.subset_univ _) (Memref.readAt_unit_zero (Elt F) cc0_scratch0 hz3 _ _) (by unfold bufPts; exact BI.Entails.refl _) ?_
  refine load_step c (m := oM) (S := Finset.univ) (q := fullShare) (f := o0)
    iprop(bufPts c Finset.univ (sh c) (gath own) ∗ records own K ∗ LeftSt own c 0 ∗ R) _
    (Finset.subset_univ _) rfl ?_ ?_
  · unfold bufPts
    iintro ⟨Hb, Ho, HR⟩
    isplitl [Ho]; · iexact Ho
    isplitl [Hb]; · iexact Hb
    iexact HR
  refine store_step c (m := oM) _ (outOf c i (gath own)) (Finset.subset_univ _)
    ((Memref.write_access_unit_zero_univ (Elt F) cc0_stg3_0 hz2 _ o0 _).trans (by unfold outOf; with_reducible rfl)) (BI.Entails.refl _) ?_
  refine BIBase.Entails.trans (Q := iprop(records own K ∗ LeftSt own c 0 ∗ bufPts c Finset.univ (sh c) (gath own)
    ∗ refPts c cc0_stg3_0 (outOf c i (gath own)) ∗ R)) ?_ ?_
  · iintro ⟨Ho, Hb, Hr, Hl, HR⟩
    isplitl [Hr]; · iexact Hr
    isplitl [Hl]; · iexact Hl
    isplitl [Hb]; · iexact Hb
    isplitl [Ho]; · iexact Ho
    iexact HR
  extract_lets
  iterate 4
    refine left_step own K (by decide) (by decide +kernel) (fun _ => slotM_of (k0_off38_eq c) _ _) (fun _ => sendS_of rfl _) ?_
  exact pure_wp c hk

theorem part11 {Q : BitVec 32 → sProp 𝕄} {R : sProp 𝕄} (hk : iprop(records own K ∗ LeftSt own c 14 ∗ R) ⊢ Q 14#32) :
    iprop(records own K ∗ LeftSt own c 4 ∗ R) ⊢ WP c (k0_part11 (F := F) xM (Memref.isWhole_whole _) iM (Memref.isWhole_whole _) wM (Memref.isWhole_whole _) oM (Memref.isWhole_whole _)
          pM (Memref.isWhole_whole _) rM (Memref.isWhole_whole _) cc0_scratch2 cc0_scratch3 c (meW c) 4#32) Q := by
  rw [k0_part11_eq_skeleton]; unfold k0_part11_skel
  extract_lets
  iterate 10
    refine left_step own K (by decide) (by decide +kernel) (fun _ => slotM_of (k0_off38_eq c) _ _) (fun _ => sendS_of rfl _) ?_
  exact pure_wp c hk

/-! ## The whole body -/

/-- What the body needs, but for the records and the operands. -/
def bodyIn : sProp 𝕄 :=
  iprop(owesE c (O₀ c) ∗ (bigSep (Finset.univ.erase c) fun p => dutyTok ER (barCell p) 0 c)
    ∗ (atPos ER (barCell c) 0 ∅ 0 ∗ cred (tallyAt (barCell c) () 15) ∗ levAts L lv)
    ∗ (bigSep (Finset.univ.erase c) fun p => dutyTok ER (sendCell c p) 0 p)
    ∗ (bigSep (Finset.univ.erase c) fun p => dutyTok ER (recvCell p c) 0 c)
    ∗ (bigSep (Finset.univ.erase c) fun p => atPos ER (recvCell c p) 0 ∅ 0)
    ∗ (bigSep (Finset.univ.erase c) fun p => cred (tallyAt (recvCell c p) () N))
    ∗ (bigSep (Finset.univ.erase c) fun p => atPos ER (sendCell c p) 0 ∅ 0))

/-- What the body leaves, but for the operands. -/
def bodyOut : sProp 𝕄 :=
  iprop(owesE c 0 ∗ bufPts c Finset.univ fullShare (gath own) ∗ semVal (barCell c) 0
    ∗ (bigSep (Finset.univ.erase c) fun p => semVal (recvCell c p) 0) ∗ (bigSep (Finset.univ.erase c) fun p => semVal (sendCell c p) 0))

section Apply

theorem app2 {A B G : sProp 𝕄} : iprop(A ∗ B ∗ (A -∗ B -∗ G)) ⊢ G := by
  iintro ⟨HA, HB, H⟩
  iapply H $$ HA HB
theorem app3 {A B C G : sProp 𝕄} : iprop(A ∗ B ∗ C ∗ (A -∗ B -∗ C -∗ G)) ⊢ G := by
  iintro ⟨HA, HB, HC, H⟩
  iapply H $$ HA HB HC
theorem app4 {A B C D G : sProp 𝕄} : iprop(A ∗ B ∗ C ∗ D ∗ (A -∗ B -∗ C -∗ D -∗ G)) ⊢ G := by
  iintro ⟨HA, HB, HC, HD, H⟩
  iapply H $$ HA HB HC HD

end Apply

theorem bind_wp' {α β : Type} {p : Prog (TpuEff nD τ sig (Elt F) Λ₀ .tc) β} {k : β → Prog (TpuEff nD τ sig (Elt F) Λ₀ .tc) α} {Q : α → sProp 𝕄} :
    WP c p (fun a => WP c (k a) Q) ⊢ WP c (p >>= k) Q := bind_wp c (BI.Entails.refl _)

theorem left_end : iprop(LeftSt own c 16 ∗ bufPts c Finset.univ (sh c) (gath own) ∗ keep c (gath own) ∗ semVal (barCell c) 0
      ∗ bigSep (Finset.univ.erase c) fun p => semVal (recvCell c p) 0) ⊢ bodyOut own c := by
  have hw := whole_buf c (gath own)
  unfold others at hw
  unfold LeftSt bodyOut
  rw [prog_last, bigSep_sep']
  iintro ⟨⟨Ho, Hs, Hb⟩, H1, H2, Hz, Hv⟩
  isplitl [Ho]; · iexact Ho
  isplitl [H1 H2 Hb]
  · iapply hw
    isplitl [H1]; · iexact H1
    isplitl [H2]; · iexact H2
    iexact Hb
  isplitl [Hz]; · iexact Hz
  isplitl [Hv]; · iexact Hv
  iexact Hs

theorem body (hown : own c = ownOf c x i w) (hoff : ∀ d j, j ∉ slotSet d → own d j = k0_pay1 (F := F) j) (f0 : PBuf F) (r0 : RBuf F) (o0 : OBuf F)
    {Q : PUnit → sProp 𝕄} {R : sProp 𝕄}
    (hk : iprop(bodyOut own c ∗ refPts c cc0_stg0_0 x ∗ refPts c cc0_stg1_0 i ∗ refPts c cc0_stg2_0 w ∗ refPts c cc0_stg3_0 (outOf c i (gath own))
      ∗ refPts c cc0_scratch1 (rankBuf (F := F) i) ∗ R) ⊢ Q ⟨⟩) :
    iprop(records own K ∗ bodyIn c ∗ bufPts c Finset.univ fullShare f0 ∗ refPts c cc0_scratch1 r0 ∗ refPts c cc0_stg0_0 x ∗ refPts c cc0_stg1_0 i
        ∗ refPts c cc0_stg2_0 w ∗ refPts c cc0_stg3_0 o0 ∗ R)
      ⊢ WP c (cc0_body (F := F) xM (Memref.isWhole_whole _) iM (Memref.isWhole_whole _) wM (Memref.isWhole_whole _) oM (Memref.isWhole_whole _)
          pM (Memref.isWhole_whole _) rM (Memref.isWhole_whole _) cc0_scratch2 cc0_scratch3) Q := by
  rw [cc0_body_eq_skeleton]; unfold cc0_body_skel bodyIn
  iintro ⟨Hrec, ⟨Ho, Htb, Hbar, Hts, Htr, Har, Hcr, Has⟩, Hp, Hr, Hx, Hi, Hw, Hout, HR⟩
  iapply bind_wp'
  iapply (part1 own K c f0 app4)
  isplitl [Hrec]; · iexact Hrec
  isplitl [Ho Hp Htb]
  · isplitl [Ho]; · iexact Ho
    isplitl [Hp]; · iexact Hp
    iexact Htb
  iintro Hrec Hst Hslot Hrest
  iapply bind_wp'
  iapply (part2 own K c i app3)
  isplitl [Hrec]; · iexact Hrec
  isplitl [Hst]; · iexact Hst
  isplitl [Hbar]; · iexact Hbar
  isplitl [Hi]; · iexact Hi
  iintro Hrec ⟨Ho, Hz, Hpeers⟩ Hi
  iapply bind_wp'
  iapply (part3 c x i r0 app2)
  isplitl [Hr]; · iexact Hr
  isplitl [Hx]; · iexact Hx
  iintro Hr Hx
  iapply bind_wp'
  iapply (part4 c x i w app2)
  isplitl [Hw]; · iexact Hw
  isplitl [Hslot]; · iexact Hslot
  iintro Hw Hslot
  iapply bind_wp'
  iapply (part5 own K c x i w hown app4)
  isplitl [Hw]; · iexact Hw
  isplitl [Hslot]; · iexact Hslot
  isplitl [Hrec]; · iexact Hrec
  isplitl [Ho]; · iexact Ho
  isplitl [Hts]; · iexact Hts
  isplitl [Htr]; · iexact Htr
  isplitl [Hpeers]; · iexact Hpeers
  iintro Hrec Hst Hslot Hw
  iapply bind_wp'
  iapply (part6 own K c app2)
  isplitl [Hrec]; · iexact Hrec
  isplitl [Hst]; · iexact Hst
  iintro Hrec Hst
  iapply bind_wp'
  iapply (part7 own K c app3)
  isplitl [Hrec]; · iexact Hrec
  isplitl [Hst]; · iexact Hst
  isplitl [Har]; · iexact Har
  isplitl [Hcr]; · iexact Hcr
  iintro Hrec Hst Hcs
  iapply bind_wp'
  iapply (part8 own K c app2)
  isplitl [Hrec]; · iexact Hrec
  isplitl [Hst]; · iexact Hst
  iintro Hrec Hst
  iapply bind_wp'
  iapply (part9 c i app2)
  isplitl [Hi]; · iexact Hi
  isplitl [Hr]; · iexact Hr
  iintro Hi Hr
  ihave H := (recv_end own c hoff (R := iprop(emp))) $$ [Hst Hslot Hrest]
  · isplitl [Hst]; · iexact Hst
    isplitl [Hslot]; · iexact Hslot
    isplitl [Hrest]; · iexact Hrest
    iempintro
  icases H with ⟨Hp, Hkeep, Ho, Hv, -⟩
  ihave H := (left_start own c (R := iprop(emp))) $$ [Ho Has Hcs]
  · isplitl [Ho]; · iexact Ho
    isplitl [Has]; · iexact Has
    isplitl [Hcs]; · iexact Hcs
    iempintro
  icases H with ⟨Hst, -⟩
  iapply bind_wp'
  iapply (part10 own K c i o0 app4)
  isplitl [Hp]; · iexact Hp
  isplitl [Hout]; · iexact Hout
  isplitl [Hrec]; · iexact Hrec
  isplitl [Hst]; · iexact Hst
  iintro Hrec Hst Hp Hout
  iapply bind_wp'
  iapply (part11 own K c app2)
  isplitl [Hrec]; · iexact Hrec
  isplitl [Hst]; · iexact Hst
  iintro Hrec Hst
  extract_lets
  iapply (left_step own K (by decide) (by decide +kernel) (fun _ => slotM_of (k0_off38_eq c) _ _) (fun _ => sendS_of rfl _) app2)
  isplitl [Hrec]; · iexact Hrec
  isplitl [Hst]; · iexact Hst
  iintro Hrec Hst
  iapply (left_step own K (by decide) (by decide +kernel) (fun _ => slotM_of (k0_off38_eq c) _ _) (fun _ => sendS_of rfl _) app2)
  isplitl [Hrec]; · iexact Hrec
  isplitl [Hst]; · iexact Hst
  iintro Hrec Hst
  iapply (pure_wp c hk)
  isplitl [Hst Hp Hkeep Hz Hv]
  · iapply (left_end own c)
    isplitl [Hst]; · iexact Hst
    isplitl [Hp]; · iexact Hp
    isplitl [Hkeep]; · iexact Hkeep
    isplitl [Hz]; · iexact Hz
    iexact Hv
  isplitl [Hx]; · iexact Hx
  isplitl [Hi]; · iexact Hi
  isplitl [Hw]; · iexact Hw
  isplitl [Hout]; · iexact Hout
  isplitl [Hr]; · iexact Hr
  iexact HR

end Cert.Exchange
-- ==== Proof.Deal.lean ====
/-
# 01_k: what the launch deals

The semaphores, tokens and credits of the whole mesh at the launch, regrouped into what each device starts from.
-/
module

public import proofs.«01_k».proof.Proof.Parts2
public import proofs.«01_k».proof.Proof.Gen.KernelIdeal.Launch

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (own : Dev nD → PBuf F)

/-! ## The cells -/

theorem ownSemFacts : Pipeline.OwnSemFacts cfg0.spec osem := by decide +kernel

theorem csem_injective : Function.Injective csem := by decide +kernel

theorem kcell_injective : Function.Injective (kcell : Dev nD × CIx → GSem nD τ sig) := by
  rintro ⟨c, k⟩ ⟨c', k'⟩ h
  have h1 : c = c' := congrArg (fun g : GSem nD τ sig => g.1.1) h
  have h2 : k = k' := csem_injective (congrArg Prod.snd h)
  rw [h1, h2]

def cells : Finset (GSem nD τ sig) := Finset.univ.map ⟨kcell, kcell_injective⟩

/-- Over a device's cells: the barrier, the sends, the receives. -/
theorem bigSep_cells (Φ : CIx → sProp 𝕄) :
    bigSep Finset.univ Φ = iprop(Φ none ∗ (bigSep Finset.univ fun p : Dev nD => Φ (some (false, p)))
      ∗ bigSep Finset.univ fun p : Dev nD => Φ (some (true, p))) := by
  rw [bigSep_univ_at Φ none, show (Finset.univ.erase none : Finset CIx) = Finset.univ.map Function.Embedding.some from by decide +kernel,
    BI.bigSep_map, BI.bigSep_univ_prod, bigSep_univ_eq_bigSepL [false, true] (by decide) (by decide)]
  rfl

theorem bigSep_own (Φ : XIx → sProp 𝕄) :
    bigSep Finset.univ Φ = iprop((bigSep Finset.univ fun p : Dev nD => Φ (false, p)) ∗ bigSep Finset.univ fun p : Dev nD => Φ (true, p)) := by
  rw [BI.bigSep_univ_prod, bigSep_univ_eq_bigSepL [false, true] (by decide) (by decide)]
  rfl

theorem ownSems0_eq (c : Dev nD) : (Pipeline.ownSems0 (Ix := Unit) (Name := ℕ) (U := UU) (Lvl := ℕ) (Val := Elt F) (τ := τ) osem c : sProp 𝕄)
    = iprop((bigSep Finset.univ fun p : Dev nD => semVal (sendCell c p) 0) ∗ bigSep Finset.univ fun p : Dev nD => semVal (recvCell c p) 0) := by
  unfold Pipeline.ownSems0; rw [bigSep_own]; rfl

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, bigSep_cells]
  iintro ⟨⟨HS, HV⟩, HB⟩
  isplitl [HB]; · iexact HB
  isplitl [HS]; · iexact HS
  iexact HV

/-! ## The tokens -/

/-- The token of the duty of device `p` towards a cell of device `c`: its barrier, its send to `p`, its receive from `p`. -/
def tokOf (x : Dev nD × Fin 3 × Dev nD) : GSem nD τ sig × ℕ × Dev nD :=
  match x.2.1 with
  | 0 => (barCell x.1, 0, x.2.2) | 1 => (sendCell x.1 x.2.2, 0, x.2.2) | 2 => (recvCell x.1 x.2.2, 0, x.2.2)

theorem tokOf_injective : Function.Injective tokOf := by
  rintro ⟨c, j, p⟩ ⟨c', j', p'⟩ h
  have h1 : c = c' := by
    have := congrArg (fun x : GSem nD τ sig × ℕ × Dev nD => x.1.1.1) h
    fin_cases j <;> fin_cases j' <;> exact this
  have h2 : p = p' := by
    have := congrArg (fun x : GSem nD τ sig × ℕ × Dev nD => x.2.2) h
    fin_cases j <;> fin_cases j' <;> exact this
  subst h1; subst h2
  have h3 := congrArg (fun x : GSem nD τ sig × ℕ × Dev nD => x.1.2) h
  have hb : ∀ q : Dev nD, (SemLoc.dma (sendS q) : SemLoc sig) ≠ .dma (recvS q) := by decide +kernel
  have : j = j' := by
    fin_cases j <;> fin_cases j' <;> first
      | rfl
      | exact absurd h3 (fun e => by cases e)
      | exact absurd h3 (hb p)
      | exact absurd h3.symm (hb p)
  rw [this]

def toksAll : Finset (GSem nD τ sig × ℕ × Dev nD) := Finset.univ.map ⟨tokOf, tokOf_injective⟩

def u₀ : UU :=
  (initOf (Pipeline.cells cfgs cellOf_inj) (Pipeline.launchToks cfgs cellOf_inj), initOf cells toksAll)

/-- The tokens of the duties towards device `c`'s cells. -/
def toks (c : Dev nD) : sProp 𝕄 :=
  iprop((bigSep Finset.univ fun p : Dev nD => dutyTok ER (barCell c) 0 p)
    ∗ (bigSep Finset.univ fun p : Dev nD => dutyTok ER (sendCell c p) 0 p)
    ∗ bigSep Finset.univ fun p : Dev nD => dutyTok ER (recvCell c p) 0 p)

/-- The tokens of the duties device `c` pays. -/
def payToks (c : Dev nD) : sProp 𝕄 :=
  iprop((bigSep Finset.univ fun p : Dev nD => dutyTok ER (barCell p) 0 c)
    ∗ (bigSep Finset.univ fun p : Dev nD => dutyTok ER (sendCell c p) 0 p)
    ∗ bigSep Finset.univ fun p : Dev nD => dutyTok ER (recvCell p c) 0 c)

theorem toks_dealt : (bigSep Finset.univ fun c : Dev nD => (toks c : sProp 𝕄)) = bigSep Finset.univ fun c : Dev nD => payToks c := by
  unfold toks payToks
  rw [bigSep_sep', bigSep_sep', bigSep_sep', bigSep_sep',
    BI.bigSep_univ_comm (fun c p : Dev nD => (dutyTok ER (barCell c) 0 p : sProp 𝕄)),
    BI.bigSep_univ_comm (fun c p : Dev nD => (dutyTok ER (recvCell c p) 0 p : sProp 𝕄))]

/-- What the launch element deals device `c`. -/
def G (c : Dev nD) : sProp 𝕄 :=
  iprop((bigSep Finset.univ fun k : CIx => roundState ER (sched own) (kcell (c, k)) 0)
    ∗ (bigSep Finset.univ fun k : CIx => iprop(atPos ER (kcell (c, k)) 0 ∅ 0 ∗ reached ER (kcell (c, k)) 0)) ∗ toks c)

/-- What the regrouping makes of it. -/
def G' (c : Dev nD) : sProp 𝕄 :=
  iprop(∃ K, records own K ∗ (bigSep Finset.univ fun k : CIx => atPos ER (kcell (c, k)) 0 ∅ 0) ∗ payToks c)

theorem fund_mesh : BI.own (ER (initOf cells toksAll)) ⊢ (|==> bigSep Finset.univ (G own) : sProp 𝕄) := by
  have hX (Φ : GSem nD τ sig → sProp 𝕄) : bigSep cells Φ = bigSep Finset.univ fun c : Dev nD => bigSep Finset.univ fun k : CIx => Φ (kcell (c, k)) := by
    unfold cells; rw [BI.bigSep_map, BI.bigSep_univ_prod]; rfl
  have hT : bigSep toksAll (fun x => (dutyTok ER x.1 x.2.1 x.2.2 : sProp 𝕄)) = bigSep Finset.univ fun c : Dev nD => toks c := by
    unfold toksAll; rw [BI.bigSep_map, BI.bigSep_univ_prod]
    refine bigSep_congr fun c _ => ?_
    rw [BI.bigSep_univ_prod, bigSep_univ_eq_bigSepL [0, 1, 2] (by decide) (by decide)]
    rfl
  iintro HX
  imod (Rounds.fund ER (sched own) cells toksAll) $$ HX with ⟨Hst, Hr, Hat, Htok⟩
  imodintro
  ihave Hst' := (Entails.of_eq (hX fun g => roundState ER (sched own) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G own c)
      ⊢ |={Set.univ}=> iprop((bigSep Finset.univ fun k => iprop(∃ κ : ℕ, cellInv ER (sched own) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (sched own) (kcell (c, k)) 0)
      ⊢ (|={Set.univ}=> bigSep Finset.univ fun k => iprop(∃ κ : ℕ, cellInv ER (sched own) κ (kcell (c, k))) : sProp 𝕄) from by
        rw [← bigSep_sep']
        exact (bigSep_mono fun k _ => (Rounds.body_intro ER (sched own) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched own) κ (kcell (c, k))))
          ∗ (bigSep Finset.univ fun k => iprop(atPos ER (kcell (c, k)) 0 ∅ 0 ∗ reached ER (kcell (c, k)) 0)) ∗ toks c) : sProp 𝕄)
      ⊢ bigSep Finset.univ (G' own) := by
  rw [bigSep_sep', bigSep_sep', ← BI.bigSep_univ_prod (fun ck : Dev nD × CIx => iprop(∃ κ : ℕ, cellInv ER (sched own) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← BI.bigSep_univ_prod (fun ck : Dev nD × CIx => (reached ER (kcell ck) 0 : sProp 𝕄)), toks_dealt]
  iintro ⟨HI, ⟨Hat, #HR⟩, Htok⟩
  ihave HK := (BI.bigSep_exists_pi Finset.univ (fun (ck : Dev nD × CIx) (κ : ℕ) => (cellInv ER (sched own) κ (kcell ck) : sProp 𝕄))) $$ HI
  icases HK with ⟨%K, #HI⟩
  iapply (bigSep_with (R := records own K)
    (Φ := fun c => iprop((bigSep Finset.univ fun k : CIx => atPos ER (kcell (c, k)) 0 ∅ 0) ∗ payToks c)) fun c _ => by
      unfold G'; iintro ⟨HR, Ha, Ht⟩; iexists K
      isplitl [HR]; · iexact HR
      isplitl [Ha] <;> iassumption)
  isplitr
  · unfold records; rw [bigSep_sep']
    isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G own c) : sProp 𝕄)
    ⊢ |={Set.univ}=> bigSep Finset.univ (G' own) :=
  ((bigSep_mono fun c _ => core_alloc own c).trans (bigSep_fupd _ _)).trans (BI.fupd_mono (regroup own))

/-! ## The launch credit -/

theorem bar_eq_iff {a b : Dev nD} : Iff (barCell a = barCell b) (a = b) :=
  ⟨fun h => congrArg (fun g : GSem nD τ sig => g.1.1) h, fun h => h ▸ rfl⟩

theorem recv_eq {a b p q : Dev nD} (h : recvCell a p = recvCell b q) : a = b ∧ p = q := by
  have h1 : a = b := congrArg (fun g : GSem nD τ sig => g.1.1) h
  have h2 : (a, (some (true, p) : CIx)) = (b, some (true, q)) := kcell_injective (a₁ := (a, some (true, p))) (a₂ := (b, some (true, q))) h
  exact ⟨h1, (Prod.mk.inj (Option.some.inj (Prod.mk.inj h2).2)).2⟩

theorem due_at (d : Dev nD) (T : Dev nD → CellTallies nD τ sig Unit) (g : GSem nD τ sig) :
    due d 0 T g () = ∑ p, if p = d then 0 else T p g () := by
  unfold due
  rw [Finset.sum_apply, Finsupp.finset_sum_apply]
  refine Finset.sum_congr rfl fun p _ => ?_
  by_cases h : p = d
  · rw [if_pos (.inl h), if_pos h]; rfl
  · rw [if_neg (fun e => e.elim h (Nat.not_lt_zero _)), if_neg h]

theorem tally_other {g g' : GSem nD τ sig} (k : ℕ) (h : g ≠ g') : tallyAt (Ix := Unit) g' () k g () = 0 := by
  rw [tallyAt_apply, if_neg fun e => h e.1]
theorem tally_self (g : GSem nD τ sig) (k : ℕ) : tallyAt (Ix := Unit) g () k g () = k := by
  rw [tallyAt_apply, if_pos ⟨rfl, rfl⟩]

/-- What device `d` owes device `c`'s barrier: a unit, unless it is its own. -/
theorem owed_bar (d c : Dev nD) : O₀ d (barCell c) () = if c = d then 0 else 1 := by
  have h1 : due d 0 (recvT d) (barCell c) () = 0 := by
    rw [due_at]
    exact Finset.sum_eq_zero fun p _ => by rw [tally_other _ fun e => by cases congrArg Prod.snd e]; exact ite_self 0
  have h2 : due d 0 barT (barCell c) () = if c = d then 0 else 1 := by
    rw [due_at, Finset.sum_eq_single c]
    · rw [tally_self]
    · intro p _ hp
      rw [tally_other _ fun e => hp (bar_eq_iff.mp e).symm]; exact ite_self 0
    · exact fun h => absurd (Finset.mem_univ c) h
  unfold O₀
  rw [Pi.add_apply, Finsupp.add_apply, h1, h2, Nat.zero_add]

/-- What device `d` owes device `c`'s receive from `q`: the transfer if `d` is `q`. -/
theorem owed_recv (d c q : Dev nD) (hq : q ≠ c) : O₀ d (recvCell c q) () = if d = q then N else 0 := by
  have h1 : due d 0 barT (recvCell c q) () = 0 := by
    rw [due_at]
    exact Finset.sum_eq_zero fun p _ => by rw [tally_other _ fun e => by cases congrArg Prod.snd e]; exact ite_self 0
  have h2 : due d 0 (recvT d) (recvCell c q) () = if d = q then N else 0 := by
    rw [due_at, Finset.sum_eq_single c]
    · by_cases hd : d = q
      · subst hd; rw [if_neg (Ne.symm hq), tally_self, if_pos rfl]
      · rw [tally_other _ fun e => hd (recv_eq e).2.symm, if_neg hd]; exact ite_self 0
    · intro p _ hp
      rw [tally_other _ fun e => hp (recv_eq e).1.symm]; exact ite_self 0
    · exact fun h => absurd (Finset.mem_univ c) h
  unfold O₀
  rw [Pi.add_apply, Finsupp.add_apply, h1, h2, Nat.add_zero]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_recv (c q : Dev nD) (hq : q ≠ c) :
    tallyOn (recvCell c q) (launchCredit (Pipeline.owing O₀) 0 (recvCell c q)) = (tallyAt (recvCell c q) () N : CellTallies nD τ sig Unit) := by
  unfold tallyAt; refine congrArg _ (Finsupp.ext fun u => ?_); cases u
  rw [Pipeline.launchCredit_owing, Finsupp.single_eq_same, Finset.sum_congr rfl fun d _ => owed_recv d c q hq, Finset.sum_ite_eq' Finset.univ q fun _ => N,
    if_pos (Finset.mem_univ _)]

theorem creds (c : Dev nD) :
    (Pipeline.launchCred O₀ c : sProp 𝕄)
      ⊢ iprop(cred (tallyAt (barCell c) () 15) ∗ bigSep (Finset.univ.erase c) fun p => cred (tallyAt (recvCell c p) () N)) := by
  unfold Pipeline.launchCred
  rw [bigSep_univ_at _ (SemLoc.reg barS), launch_bar]
  refine sep_mono_right ?_
  have hinj : Set.InjOn (fun p : Dev nD => (SemLoc.dma (recvS p) : SemLoc sig)) (Finset.univ.erase c : Finset (Dev nD)) :=
    fun a _ b _ h => (recv_eq (a := c) (b := c) (congrArg (fun s : SemLoc sig => (((c : Thread nD τ), s) : GSem nD τ sig)) h)).2
  refine BIBase.Entails.trans (bigSep_subset (t := (Finset.univ.erase c).image fun p : Dev nD => (SemLoc.dma (recvS p) : SemLoc sig)) ?_) ?_
  · intro s hs
    obtain ⟨p, -, rfl⟩ := Finset.mem_image.mp hs
    exact Finset.mem_erase.mpr ⟨by rintro ⟨⟩, Finset.mem_univ _⟩
  · rw [bigSep_image_of_injOn hinj]
    refine bigSep_mono fun p hp => ?_
    show (cred (tallyOn (recvCell c p) (launchCredit (Pipeline.owing O₀) 0 (recvCell c p))) : sProp 𝕄) ⊢ _
    rw [launch_recv c p (Finset.mem_erase.mp hp).1]

end Cert.Exchange

end
-- ==== Proof.Run.lean ====
/-
# 01_k: the run of the kernel

From any memory with every counter at zero, every execution on the sixteen devices ends, and what the arrays then hold.
-/
module

public import proofs.«01_k».proof.Proof.Deal
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## What the windows hold -/

def stgX (c : Dev nD) : XBuf F := (win0_0.blk (0 : Fin 1)).view.read (Elt F) ((s₀ m ρ).mem ((c : Thread nD τ).loc main_arg0))
def stgI (c : Dev nD) : IBuf F := (win0_1.blk (0 : Fin 1)).view.read (Elt F) ((s₀ m ρ).mem ((c : Thread nD τ).loc main_arg2))
def stgW (c : Dev nD) : WBuf F := (win0_2.blk (0 : Fin 1)).view.read (Elt F) ((s₀ m ρ).mem ((c : Thread nD τ).loc main_arg3))

/-- What each device contributes to the exchange. -/
def owns (d : Dev nD) : PBuf F := ownOf d (stgX m ρ d) (stgI m ρ d) (stgW m ρ d)

def outAt (c : Dev nD) : OBuf F := outOf c (stgI m ρ c) (gath (owns m ρ))

/-! ## The proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` starts the body from, apart from the operands. -/
def start (c : Dev nD) : sProp 𝕄 :=
  iprop(G' (owns m ρ) c ∗ (cred (tallyAt (barCell c) () 15) ∗ bigSep (Finset.univ.erase c) fun p => cred (tallyAt (recvCell c p) () N))
    ∗ levAts L lv)

def Φ₀ (c : Dev nD) : sProp 𝕄 :=
  iprop(start m ρ c ∗ Pipeline.scopedRest spec0 c)
def Φ₁ (c : Dev nD) : sProp 𝕄 :=
  iprop(unscopedSems0 c ∗ Pipeline.ownSems0 osem c ∗ Pipeline.scopedRest spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stgX m ρ c
    | ⟨1, _⟩ => stgI m ρ c
    | ⟨2, _⟩ => stgW m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 4) ∗ Φ (1 : Fin 4) ∗ Φ (2 : Fin 4) ∗ Φ (3 : Fin 4)) := bigSep_W0 Φ

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

theorem owns_whole_eq (c : Dev nD) (b : Ref sig .tc) (X : b.ty.Contents (Elt F)) :
    (Idealize.ShloMosaic.owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold Idealize.ShloMosaic.owns; simp only [Memref.view_whole, View.read_whole, View.set_whole]

def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A device sends nothing to itself: both of those cells close unused. -/
theorem close_own (K : Dev nD × CIx → ℕ) (c : Dev nD) :
    iprop(records (owns m ρ) K ∗ atPos ER (sendCell c c) 0 ∅ 0 ∗ atPos ER (recvCell c c) 0 ∅ 0)
      ⊢ (|={Set.univ}=> iprop(semVal (sendCell c c) 0 ∗ semVal (recvCell c c) 0) : sProp 𝕄) := by
  have hs : ∀ r, 0 ≤ r → (sched (owns m ρ)).duties (sendCell c c) r = ∅ := fun r _ => by
    rcases r with _ | r
    · exact duties_own_send (owns m ρ) c
    · exact duties_later (owns m ρ) _ _ (Nat.succ_pos r)
  have hr : ∀ r, 0 ≤ r → (sched (owns m ρ)).duties (recvCell c c) r = ∅ := fun r _ => by
    rcases r with _ | r
    · exact duties_own_recv (owns m ρ) c
    · exact duties_later (owns m ρ) _ _ (Nat.succ_pos r)
  iintro ⟨#HR, Hs, Hr⟩
  ihave H1 := (records_get (owns m ρ) K (c, some (false, c))) $$ HR
  icases H1 with ⟨H1, -⟩
  ihave H2 := (records_get (owns m ρ) K (c, some (true, c))) $$ HR
  icases H2 with ⟨H2, -⟩
  imod (Rounds.cell_close ER (sched (owns m ρ)) (Set.mem_univ (K (c, some (false, c)))) (fun h => h) (R := 0) hs) $$ [H1 Hs] with HzS
  · isplitl [H1]; · iexact H1
    iexact Hs
  imod (Rounds.cell_close ER (sched (owns m ρ)) (Set.mem_univ (K (c, some (true, c)))) (fun h => h) (R := 0) hr) $$ [H2 Hr] with HzR
  · isplitl [H2]; · iexact H2
    iexact Hr
  imodintro
  isplitl [HzS]; · iexact HzS
  iexact HzR

/-- The body from the launch's state, its operands staged. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ c ∗ (dats m ρ 0 c).owesAt () t₀.succ
    ∗ stg c cc0_stg0_0 (stgX m ρ c) ∗ stg c cc0_stg1_0 (stgI m ρ c) ∗ stg c cc0_stg2_0 (stgW m ρ c) ∗ stg c cc0_stg3_0 (outAt m ρ c))

/-- What a device's payment tokens, cells and credits make of the body's start. -/
theorem start_body (c : Dev nD) (K : Dev nD × CIx → ℕ) {R : sProp 𝕄} :
    iprop(owesE c (O₀ c) ∗ ((bigSep Finset.univ fun k : CIx => atPos ER (kcell (c, k)) 0 ∅ 0) ∗ payToks c)
        ∗ (cred (tallyAt (barCell c) () 15) ∗ bigSep (Finset.univ.erase c) fun p => cred (tallyAt (recvCell c p) () N))
        ∗ levAts L lv ∗ R)
      ⊢ iprop(bodyIn c ∗ (atPos ER (sendCell c c) 0 ∅ 0 ∗ atPos ER (recvCell c c) 0 ∅ 0) ∗ R : sProp 𝕄) := by
  unfold bodyIn payToks
  rw [bigSep_cells, bigSep_univ_at (fun p : Dev nD => (atPos ER (kcell (c, some (false, p))) 0 ∅ 0 : sProp 𝕄)) c,
    bigSep_univ_at (fun p : Dev nD => (atPos ER (kcell (c, some (true, p))) 0 ∅ 0 : sProp 𝕄)) c,
    bigSep_univ_at (fun p : Dev nD => (dutyTok ER (barCell p) 0 c : sProp 𝕄)) c,
    bigSep_univ_at (fun p : Dev nD => (dutyTok ER (sendCell c p) 0 p : sProp 𝕄)) c,
    bigSep_univ_at (fun p : Dev nD => (dutyTok ER (recvCell p c) 0 c : sProp 𝕄)) c]
  iintro ⟨Ho, ⟨⟨Hb, ⟨Hs0, Hs⟩, Hr0, Hr⟩, ⟨-, Tb⟩, ⟨-, Ts⟩, -, Tr⟩, ⟨Cb, Cr⟩, Hl, HR⟩
  isplitl [Ho Hb Hs Hr Tb Ts Tr Cb Cr Hl]
  · isplitl [Ho]; · iexact Ho
    isplitl [Tb]; · iexact Tb
    isplitl [Hb Cb Hl]
    · isplitl [Hb]; · iexact Hb
      isplitl [Cb]; · iexact Cb
      iexact Hl
    isplitl [Ts]; · iexact Ts
    isplitl [Tr]; · iexact Tr
    isplitl [Hr]; · iexact Hr
    isplitl [Cr]; · iexact Cr
    iexact Hs
  isplitl [Hs0 Hr0]
  · isplitl [Hs0]; · iexact Hs0
    iexact Hr0
  iexact HR

theorem sems_join (c : Dev nD) :
    iprop((semVal (sendCell c c) 0 ∗ semVal (recvCell c c) 0)
        ∗ (bigSep (Finset.univ.erase c) fun p => semVal (recvCell c p) 0) ∗ (bigSep (Finset.univ.erase c) fun p => semVal (sendCell c p) 0))
      ⊢ (Pipeline.ownSems0 osem c : sProp 𝕄) := by
  rw [ownSems0_eq, bigSep_univ_at (fun p : Dev nD => (semVal (sendCell c p) 0 : sProp 𝕄)) c,
    bigSep_univ_at (fun p : Dev nD => (semVal (recvCell c p) 0 : sProp 𝕄)) c]
  iintro ⟨⟨Hs0, Hr0⟩, Hr, Hs⟩
  isplitl [Hs0 Hs]
  · isplitl [Hs0]; · iexact Hs0
    iexact Hs
  isplitl [Hr0]; · iexact Hr0
  iexact Hr

theorem body_left (c : Dev nD) :
    iprop(bodyOut (owns m ρ) c ∗ refPts c cc0_stg0_0 (stgX m ρ c) ∗ refPts c cc0_stg1_0 (stgI m ρ c) ∗ refPts c cc0_stg2_0 (stgW m ρ c)
        ∗ refPts c cc0_stg3_0 (outOf c (stgI m ρ c) (gath (owns m ρ))) ∗ refPts c cc0_scratch1 (rankBuf (stgI m ρ c))
        ∗ (semVal (sendCell c c) 0 ∗ semVal (recvCell c c) 0))
      ⊢ (bodyPost m ρ c : sProp 𝕄) := by
  unfold bodyOut bodyPost Φ₁ stg Dat.owesAt Pipeline.owesWithin owesE
  rw [show (dats m ρ 0 c).owed t₀.succ = 0 from rfl, scopedRest0_eq, unscopedSems0_eq]
  iintro ⟨⟨⟨%W, Ho⟩, Hf, Hb, Hr, Hs⟩, Hx, Hi, Hw, Hout, Hrk, Hz⟩
  isplitl [Hf Hb Hr Hs Hrk Hz]
  · isplitl [Hb]; · iexact Hb
    isplitl [Hr Hs Hz]
    · iapply (sems_join (F := F) c)
      isplitl [Hz]; · iexact Hz
      isplitl [Hr]; · iexact Hr
      iexact Hs
    isplitl [Hf]
    · iexists (gath (owns m ρ)); unfold bufPts; iexact Hf
    · iexists _; iexact Hrk
  isplitl [Ho]
  · iexists W; isplitr; · (ipureintro; exact fun _ _ => Or.inl trivial)
    iexact Ho
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  unfold outAt; iexact Hout

theorem body_run (c : Dev nD) :
    bodyPre' m ρ c ⊢ WP c (cc0_body xM (Memref.isWhole_whole _) iM (Memref.isWhole_whole _) wM (Memref.isWhole_whole _) oM (Memref.isWhole_whole _)
      pM (Memref.isWhole_whole _) rM (Memref.isWhole_whole _) cc0_scratch2 cc0_scratch3) (fun _ => bodyPost m ρ c) := by
  unfold bodyPre' Φ₀ start G' stg
  rw [scopedRest0_eq]
  iintro ⟨⟨⟨⟨%K, #HR, Hk⟩, Hc, Hl⟩, ⟨%f0, Hf⟩, ⟨%r0, Hr⟩⟩, Ho, ⟨%d0, %x, %hx, Hx⟩, ⟨%d1, %i, %hi, Hi⟩, ⟨%d2, %w, %hw, Hw⟩, ⟨%d3, %o0, %ho, Hout⟩⟩
  have hx' : x = stgX m ρ c := by rw [hx]; unfold Dat.before; rw [if_pos (fetch_0 t₀)]; rfl
  have hi' : i = stgI m ρ c := by rw [hi]; unfold Dat.before; rw [if_pos (fetch_1 t₀)]; rfl
  have hw' : w = stgW m ρ c := by rw [hw]; unfold Dat.before; rw [if_pos (fetch_2 t₀)]; rfl
  subst hx' hi' hw'
  unfold Dat.owesAt Pipeline.owesWithin
  icases Ho with ⟨%W, %hW, HO⟩
  ihave H := (start_body (F := F) c K (R := iprop(emp))) $$ [HO Hk Hc Hl]
  · isplitl [HO]; · (unfold owesE; iexists W; iexact HO)
    isplitl [Hk]; · iexact Hk
    isplitl [Hc]; · iexact Hc
    isplitl [Hl]; · iexact Hl
    iempintro
  icases H with ⟨Hin, Hself, -⟩
  imod (close_own m ρ K c) $$ [Hself] with Hz
  · isplitr; · iexact HR
    iexact Hself
  iapply (body (owns m ρ) K c (stgX m ρ c) (stgI m ρ c) (stgW m ρ c) rfl
    (fun d j hj => ownOf_off d (stgX m ρ d) (stgI m ρ d) (stgW m ρ d) hj) f0 r0 o0
    (R := iprop(semVal (sendCell c c) 0 ∗ semVal (recvCell c c) 0)) (body_left m ρ c))
  isplitr; · iexact HR
  isplitl [Hin]; · iexact Hin
  isplitl [Hf]; · (unfold bufPts; iexact Hf)
  isplitl [Hr]; · iexact Hr
  isplitl [Hx]; · iexact Hx
  isplitl [Hi]; · iexact Hi
  isplitl [Hw]; · iexact Hw
  isplitl [Hout]; · iexact Hout
  iexact Hz

set_option maxRecDepth 4000 in
/-- The library's body obligation. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact body_run m ρ c

/-! ## The side conditions of the launch -/

theorem share_eq (c : Dev nD) (w : Fin cfg0.W) : (dats m ρ 0 c).share w = fullShare := by unfold Dat.share; split <;> rfl

/-- The second operand, which the kernel never touches. -/
def aside (c : Dev nD) : sProp 𝕄 := refPts c main_arg1 (m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (owns m ρ) c)
      ⊢ |={Set.univ}=> iprop(start m ρ c ∗ aside m c) := by
  have he : (Pipeline.unscopedRestP Pipeline.Prefetch.none cfg0.spec c (fun b => m ((c : Thread nD τ).loc b)) : sProp 𝕄) = aside m c := by
    unfold aside refPts
    rw [← unscopedRest0_eq (Ix := Unit) (Name := ℕ) (U := UU) (Lvl := ℕ) c (fun b => m ((c : Thread nD τ).loc b))]
    exact Pipeline.unscopedRestP_none _ _ _
  rw [he]
  iintro ⟨Hz, Hlev, Hcr, -, HG⟩
  ihave Hc := (creds (F := F) c) $$ Hcr
  imodintro
  unfold start
  isplitl [HG Hc Hlev]
  · isplitl [HG]; · iexact HG
    isplitl [Hc]; · iexact Hc
    iexact Hlev
  · iexact Hz

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) :=
  BI.Entails.refl _

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- The memory the run ends in: each window's array at its final contents, the second operand as it was. -/
def QC : PUnit × MemSt nD τ sig (Elt F) → Prop := fun r =>
  (∀ c : Dev nD, ∀ w : Fin cfg0.W, r.2.mem ((cfg0.win w).arr.view.loc (c : Thread nD τ)) = finalA m ρ c w)
    ∧ ∀ c : Dev nD, r.2.mem ((c : Thread nD τ).loc main_arg1) = m ((c : Thread nD τ).loc main_arg1)

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (owns m ρ)) (G' := G' (owns m ρ)) (u₀ := u₀)
    (hu₀ := by
      unfold u₀
      iintro Hu
      ihave H := (ownU_pair _ _) $$ Hu
      icases H with ⟨HP, HX⟩
      imod (fund_mesh (owns m ρ)) $$ HX with HG
      imodintro
      isplitl [HP] <;> iassumption)
    (hglob := glob (owns m ρ))
    (hA := fun _ _ => rfl) (hpf := fun _ k => k.elim0)
    (X := start m ρ) (Y := fun c => unscopedSems0 c) (Z := aside m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hz, HSI⟩
      imod (Pipeline.unscopedSems0_read (X := unscopedSems0 c) (c := c) fupd_intro s') $$ [Hu HSI] with ⟨%h1, HSI⟩
      · isplitl [Hu] <;> iassumption
      ihave H := (pointsTo_read_all {main_arg1} (fun b => (c.tc : Thread nD τ).loc b) (fun b => m ((c : Thread nD τ).loc b)) s') $$ [Hz HSI]
      · rw [BI.bigSep_singleton]; isplitl [Hz]
        · unfold aside refPts; iexact Hz
        · iexact HSI
      icases H with ⟨%h2, HSI⟩
      imodintro
      isplitr
      · ipureintro; exact ⟨h1, h2 _ (Finset.mem_singleton_self _)⟩
      · iexact HSI)
    (hQ := fun _ h hs => ⟨⟨fun c w => (h c).1 w, fun c => (h c).2.2.2⟩, sem_eq_zero hs fun c => (h c).2.2.1⟩)

/-! ## The final arrays -/

theorem finalA_in0 (c : Dev nD) : finalA m ρ c (0 : Fin 4) = (s₀ m ρ).mem (win0_0.arr.view.loc (c : Thread nD τ)) :=
  (dats (F := F) m ρ 0 c).arrAt_in (0 : Fin 4) rfl _
theorem finalA_in1 (c : Dev nD) : finalA m ρ c (1 : Fin 4) = (s₀ m ρ).mem (win0_1.arr.view.loc (c : Thread nD τ)) :=
  (dats (F := F) m ρ 0 c).arrAt_in (1 : Fin 4) rfl _
theorem finalA_in2 (c : Dev nD) : finalA m ρ c (2 : Fin 4) = (s₀ m ρ).mem (win0_2.arr.view.loc (c : Thread nD τ)) :=
  (dats (F := F) m ρ 0 c).arrAt_in (2 : Fin 4) rfl _

end Cert.Exchange

end
-- ==== Proof.Rank.lean ====
/-
# 01_k: the ranks

The rank the kernel computes for a token is the number of tokens up to and including it with the same expert; beside it,
how the words of its index arithmetic read.
-/
module

public import proofs.«01_k».proof.Proof.Contents
public import Idealize.ShloMosaic.Lib.Pointwise
public import Idealize.ShloMosaic.Lib.WordCmp

@[expose] public section

noncomputable section

namespace Cert.Exchange

open Cert.KernelIdeal Cert.KernelIdeal.Gen
open Idealize.ShloMosaic
open Idealize.ShloMosaic.WordCmp

/-- A bit widened and converted is the number one or the number zero. -/
theorem sitofp_bit (b : BitVec 1) : FloatOps.sitofp (F := Ideal) FTy.f32 (BitVec.setWidth 32 b) = if b = 1#1 then (1 : EReal) else 0 := by
  show (((BitVec.setWidth 32 b).toInt : ℝ) : EReal) = _
  rcases (by decide : ∀ b : BitVec 1, b = 0#1 ∨ b = 1#1) b with rfl | rfl
  · have h : (BitVec.setWidth 32 0#1).toInt = 0 := by decide
    rw [h, if_neg (by decide)]; simp
  · have h : (BitVec.setWidth 32 1#1).toInt = 1 := by decide
    rw [h, if_pos rfl]; simp

theorem and_bit (a b : BitVec 1) : IntOp.andi a b = 1#1 ↔ a = 1#1 ∧ b = 1#1 := by
  revert a b; decide

theorem eq_bit {w : ℕ} (a b : BitVec w) : IntOp.cmpi .eq a b = 1#1 ↔ a = b := by
  rw [cmpi_eq_eq, ofBool_decide_eq_one_iff]

/-- Comparing two small words is comparing the numbers. -/
theorem sle_bit {a b : ℕ} (ha : a < 513) (hb : b < 513) : IntOp.cmpi .sle (BitVec.ofNat 32 a) (BitVec.ofNat 32 b) = 1#1 ↔ a ≤ b := by
  rw [cmpi_sle_ofNat (by omega) (by omega), ofBool_decide_eq_one_iff]

theorem fptosi_count (n : ℕ) (hn : n ≤ 512) : FloatOps.fptosi (F := Ideal) (φ := .f32) 32 ((n : EReal)) = BitVec.ofNat 32 n := by
  show Ideal.fptosi 32 ((n : EReal)) = _
  have h : ((n : EReal)) = (((n : ℝ)) : EReal) := by simp
  rw [h]
  unfold Ideal.fptosi
  rw [Ideal.toIntClamped_coe, if_pos (by positivity), Int.floor_natCast]
  have e : max (-((2 ^ (32 - 1) : ℕ) : ℤ)) (min (((2 ^ (32 - 1) : ℕ) : ℤ) - 1) (n : ℤ)) = (n : ℤ) := by
    norm_num
    omega
  rw [e]
  simp

variable (e : Fin 512 → BitVec 32)

/-- How many tokens up to and including `t` go to `t`'s expert. -/
def rk (t : Fin 512) : ℕ := (Finset.univ.filter fun t' : Fin 512 => t' ≤ t ∧ e t' = e t).card

theorem rk_le (t : Fin 512) : rk e t ≤ 512 := (Finset.card_le_univ _).trans (by simp)

theorem rk_pos (t : Fin 512) : 0 < rk e t := Finset.card_pos.2 ⟨t, by simp⟩

/-- Two tokens of one expert with one rank are one token. -/
theorem rk_inj {t u : Fin 512} (he : e t = e u) (hr : rk e t = rk e u) : t = u := by
  have key : ∀ {a b : Fin 512}, e a = e b → a < b → rk e a < rk e b := by
    intro a b hab hlt
    refine Finset.card_lt_card (Finset.ssubset_iff_of_subset ?_ |>.2 ⟨b, ?_, ?_⟩)
    · intro z hz
      simp only [Finset.mem_filter, Finset.mem_univ, true_and] at hz ⊢
      exact ⟨hz.1.trans hlt.le, hz.2.trans hab⟩
    · simp
    · simp [hlt]
  rcases lt_trichotomy t u with h | h | h
  · exact absurd hr (key he h).ne
  · exact h
  · exact absurd hr (key he.symm h).ne'

/-- The product of two zero-or-one numbers. -/
theorem ite_mul_ite (p q : Prop) [Decidable p] [Decidable q] :
    (if p then (1 : EReal) else 0) * (if q then (1 : EReal) else 0) = if p ∧ q then 1 else 0 := by
  by_cases hp : p <;> by_cases hq : q <;> simp [hp, hq]

/-- The kernel's rank of token `t`, where every expert number is below 64. -/
theorem k0_pay3_apply (r : IVec S512x1 32) (hr : ∀ t : Fin 512, (r (ix2 t 0)).toNat < 64) (t : Fin 512) :
    k0_pay3 (F := Ideal) r iota64 (ix2 t 0) = BitVec.ofNat 32 (rk (fun t => r (ix2 t 0)) t) := by
  pointwise [k0_pay3, iota64]
  simp only [sitofp_bit, eq_bit, ite_mul_ite, sle_bit (Nat.lt_succ_of_lt (Fin.isLt _)) (Nat.lt_succ_of_lt (Fin.isLt _))]
  have hx : r (ix2 t 0) = BitVec.ofNat 32 ((⟨(r (ix2 t 0)).toNat, hr t⟩ : Fin 64) : ℕ) := by simp
  rw [Finset.sum_eq_single (⟨(r (ix2 t 0)).toNat, hr t⟩ : Fin 64) ?_ (fun h => absurd (Finset.mem_univ _) h)]
  · rw [if_pos hx, one_mul, Finset.sum_boole, fptosi_count _ ((Finset.card_le_univ _).trans (by simp))]
    unfold rk
    congr 2
    ext t'
    simp only [Finset.mem_filter, Finset.mem_univ, true_and, ← hx]
    rfl
  · intro b _ hb
    rw [if_neg, zero_mul]
    intro h
    refine hb (Fin.ext ?_)
    show b.val = (r (ix2 t 0)).toNat
    rw [h, BitVec.toNat_ofNat, Nat.mod_eq_of_lt (by have := b.isLt; omega)]

theorem k0_pay6_apply (t : Fin 512) (s : Fin 24) : k0_pay6 (ix2 t s) = BitVec.ofNat 32 (s.val / 6) := by
  pointwise [k0_pay6]
  revert s; decide +kernel

theorem rem6 (s : Fin 24) : (Scalar.select
                (IntOp.andi
                  (IntOp.xori
                    (IntOp.cmpi CmpIPredicate.slt
                      (IntOp.remsi ArithUnit.vector (BitVec.ofNat 32 ↑s)
                        (Scalar.select (Scalar.cmpi CmpIPredicate.eq 6#32 0#32) 1#32 6#32))
                      0#32)
                    (Scalar.cmpi CmpIPredicate.slt (Scalar.select (Scalar.cmpi CmpIPredicate.eq 6#32 0#32) 1#32 6#32)
                      0#32))
                  (IntOp.cmpi CmpIPredicate.ne
                    (IntOp.remsi ArithUnit.vector (BitVec.ofNat 32 ↑s)
                      (Scalar.select (Scalar.cmpi CmpIPredicate.eq 6#32 0#32) 1#32 6#32))
                    0#32))
                (IntOp.addi
                  (IntOp.remsi ArithUnit.vector (BitVec.ofNat 32 ↑s)
                    (Scalar.select (Scalar.cmpi CmpIPredicate.eq 6#32 0#32) 1#32 6#32))
                  (Scalar.select (Scalar.cmpi CmpIPredicate.eq 6#32 0#32) 1#32 6#32))
                (IntOp.remsi ArithUnit.vector (BitVec.ofNat 32 ↑s)
                  (Scalar.select (Scalar.cmpi CmpIPredicate.eq 6#32 0#32) 1#32 6#32))) = BitVec.ofNat 32 (s.val % 6) := by
  revert s; decide +kernel

/-- The selection table: row `s` is filled by the token of its expert whose rank is the row's place. -/
theorem k0_pay7_apply (r q : IVec S512x1 32) (a : BitVec 32) (t : Fin 512) (s : Fin 24) :
    k0_pay7 (F := Ideal) r q iota24 a k0_pay6 (ix2 t s)
      = if r (ix2 t 0) = a + BitVec.ofNat 32 (s.val / 6) ∧ q (ix2 t 0) = BitVec.ofNat 32 (s.val % 6) + 1#32 then 1 else 0 := by
  pointwise [k0_pay7, iota24]
  rw [sitofp_bit, rem6, k0_pay6_apply]
  simp only [and_bit, eq_bit]
  rfl

end Cert.Exchange
-- ==== Proof.Rows.lean ====
/-
# 01_k: one device's 24 rows

Row `6k+j` of a device's slot holds, where some token has the device's expert `k` and rank `j+1`, that token times the
expert's weights.
-/
module

public import proofs.«01_k».proof.Proof.Rank

@[expose] public section

noncomputable section

namespace Cert.Exchange

open Cert.KernelIdeal Cert.KernelIdeal.Gen
open Idealize.ShloMosaic

/-- A store of six rows at rows `o` and on of slot `p`, read at one of them. -/
theorem put_row (g : PBuf Ideal) (p : Fin 16) (o : ℕ) (off : Fin 3 → ℕ) (h : ∀ a, off a + S1x6x512.size a ≤ S16x32x512.size a)
    (hoff : off = ![p.val, o, 0]) (v : S1x6x512.Idx → Elt Ideal .bf16) (j : Fin 6) (f : Fin 512) (ho : o + j.val < 32) :
    put g (Rect.unit (s := S16x32x512) off S1x6x512.size h) v (ix3 p ⟨o + j.val, ho⟩ f) = v (ix3 0 j f) := by
  subst hoff
  refine Eq.trans (congrArg _ ?_) (View.write_emb_of_mem (Val := Elt Ideal) (v := ((pM : Memref sig .tc .vmem S16x32x512 .bf16).access (Rect.unit (s := S16x32x512) ![p.val, o, 0] S1x6x512.size h)))
    g v (M := Finset.univ) (x := ix3 0 j f) (Finset.mem_univ _))
  funext a; refine Fin.ext ?_
  fin_cases a
  · show p.val = p.val + 1 * 0
    omega
  · show o + j.val = o + 1 * j.val
    omega
  · show f.val = 0 + 1 * f.val
    omega

/-- The same store, read at a row above or below. -/
theorem put_row_off (g : PBuf Ideal) (p : Fin 16) (o : ℕ) (off : Fin 3 → ℕ) (h : ∀ a, off a + S1x6x512.size a ≤ S16x32x512.size a)
    (hoff : off = ![p.val, o, 0]) (v : S1x6x512.Idx → Elt Ideal .bf16) (r : Fin 32) (f : Fin 512) (ho : r.val < o ∨ o + 6 ≤ r.val) :
    put g (Rect.unit (s := S16x32x512) off S1x6x512.size h) v (ix3 p r f) = g (ix3 p r f) := by
  subst hoff
  refine put_off _ _ _ fun hm => ?_
  have h1 := Rect.mem_set_unit.mp hm 1
  have h2 : o ≤ r.val ∧ r.val < o + 6 := h1
  omega

/-- Token `u` times expert `k`'s weights, at feature `f`. -/
abbrev prod (x : S512x256.Idx → EReal) (w : S4x256x512.Idx → EReal) (u : Fin 512) (k : Fin 4) (f : Fin 512) : EReal :=
  ∑ d : Fin 256, x (ix2 u d) * w (ix3 k d f)

variable (c : Dev nD) (x : XBuf Ideal) (i : IBuf Ideal) (w : WBuf Ideal)

/-- A load of expert `k`'s weights. -/
theorem wAt_apply (k : Fin 4) (h : ∀ a, (![k.val, 0, 0] : Fin 3 → ℕ) a + S1x256x512.size a ≤ S4x256x512.size a) (d : Fin 256) (f : Fin 512) :
    wAt w (Rect.unit (s := S4x256x512) ![k.val, 0, 0] S1x256x512.size h) (ix3 0 d f) = w (ix3 k d f) := by
  refine congrArg w ?_
  funext a; refine Fin.ext ?_
  fin_cases a
  · show k.val + 1 * 0 = k.val
    omega
  · show 0 + 1 * d.val = d.val
    omega
  · show 0 + 1 * f.val = f.val
    omega

/-- The expert of each token. -/
abbrev expertOf (t : Fin 512) : BitVec 32 := i (ix2 t 0)

theorem routeV_apply (t : Fin 512) : routeV (F := Ideal) i (ix2 t 0) = expertOf i t := by
  pointwise [routeV, k0_pay2]

section Routed
variable (hi : ∀ t, (expertOf i t).toNat < 64)
include hi

theorem rankV_apply (t : Fin 512) : rankV (F := Ideal) i (ix2 t 0) = BitVec.ofNat 32 (rk (expertOf i) t) := by
  unfold rankV
  rw [k0_pay3_apply _ (fun t => by rw [routeV_apply]; exact hi t)]
  simp only [routeV_apply]

theorem rankBuf_apply (t : Fin 512) : rankBuf (F := Ideal) i (ix2 t 0) = BitVec.ofNat 32 (rk (expertOf i) t) := by
  rw [← rankV_apply i hi]
  pointwise [rankBuf, k0_pay4, rankV]

/-- Where token `u` fills row `s`, the selection picks `u` out of a sum over the tokens. -/
theorem sel_sum (u : Fin 512) (s : Fin 24) (hn : expertOf i u = firstE c + BitVec.ofNat 32 (s.val / 6))
    (hm : rk (expertOf i) u = s.val % 6 + 1) (X : Fin 512 → EReal) :
    ∑ t, k0_pay7 (F := Ideal) (routeV (F := Ideal) i) (rankV i) iota24 (firstE c) k0_pay6 (ix2 t s) * X t = X u := by
  have key : ∀ t, k0_pay7 (F := Ideal) (routeV (F := Ideal) i) (rankV i) iota24 (firstE c) k0_pay6 (ix2 t s) = if t = u then 1 else 0 := by
    intro t
    rw [k0_pay7_apply, routeV_apply, rankV_apply i hi, ← hn]
    have h6 : BitVec.ofNat 32 (s.val % 6) + 1#32 = BitVec.ofNat 32 (s.val % 6 + 1) := by rw [BitVec.ofNat_add]
    have hl : s.val % 6 < 6 := Nat.mod_lt _ (by norm_num)
    rw [h6, ← hm]
    refine if_congr ⟨fun h => ?_, fun h => by subst h; exact ⟨rfl, rfl⟩⟩ rfl rfl
    refine rk_inj _ h.1 ?_
    have := congrArg BitVec.toNat h.2
    have h1 := rk_le (expertOf i) t
    have h2 := rk_le (expertOf i) u
    rwa [BitVec.toNat_ofNat, BitVec.toNat_ofNat, Nat.mod_eq_of_lt (by omega), Nat.mod_eq_of_lt (by omega)] at this
  simp only [key, ite_mul, one_mul, zero_mul, Finset.sum_ite_eq', Finset.mem_univ, if_true]

theorem rows0_apply (u : Fin 512) (j : Fin 6) (f : Fin 512) (hn : expertOf i u = firstE c + BitVec.ofNat 32 ((0 + j.val) / 6))
    (hm : rk (expertOf i) u = (0 + j.val) % 6 + 1) : rows0 c x i w (ix3 0 j f) = prod x w u 0 f := by
  pointwise [rows0, k0_pay8, xV, k0_pay5]
  refine Finset.sum_congr rfl fun d _ => ?_
  exact congrArg₂ (fun a b : EReal => a * b) (sel_sum c i hi u ⟨j.val, by omega⟩ (by simpa using hn) (by simpa using hm) (fun t => x (ix2 t d))) (wAt_apply w 0 _ d f)

theorem rows1_apply (u : Fin 512) (j : Fin 6) (f : Fin 512) (hn : expertOf i u = firstE c + BitVec.ofNat 32 ((6 + j.val) / 6))
    (hm : rk (expertOf i) u = (6 + j.val) % 6 + 1) : rows1 c x i w (ix3 0 j f) = prod x w u 1 f := by
  pointwise [rows1, k0_pay9, k0_pay10, k0_pay11, xV, k0_pay5]
  refine Finset.sum_congr rfl fun d _ => ?_
  exact congrArg₂ (fun a b : EReal => a * b) (sel_sum c i hi u ⟨6 + j.val, by omega⟩ hn hm (fun t => x (ix2 t d))) (wAt_apply w 1 _ d f)

theorem rows2_apply (u : Fin 512) (j : Fin 6) (f : Fin 512) (hn : expertOf i u = firstE c + BitVec.ofNat 32 ((12 + j.val) / 6))
    (hm : rk (expertOf i) u = (12 + j.val) % 6 + 1) : rows2 c x i w (ix3 0 j f) = prod x w u 2 f := by
  pointwise [rows2, k0_pay12, xV, k0_pay5, selV]
  refine Finset.sum_congr rfl fun d _ => ?_
  exact congrArg₂ (fun a b : EReal => a * b) (sel_sum c i hi u ⟨12 + j.val, by omega⟩ hn hm (fun t => x (ix2 t d))) (wAt_apply w 2 _ d f)

theorem rows3_apply (u : Fin 512) (j : Fin 6) (f : Fin 512) (hn : expertOf i u = firstE c + BitVec.ofNat 32 ((18 + j.val) / 6))
    (hm : rk (expertOf i) u = (18 + j.val) % 6 + 1) : rows3 c x i w (ix3 0 j f) = prod x w u 3 f := by
  pointwise [rows3, k0_pay13, xV, k0_pay5, selV]
  refine Finset.sum_congr rfl fun d _ => ?_
  exact congrArg₂ (fun a b : EReal => a * b) (sel_sum c i hi u ⟨18 + j.val, by omega⟩ hn hm (fun t => x (ix2 t d))) (wAt_apply w 3 _ d f)

/-- What the device's own slot holds in the row that token `u` fills. -/
theorem ownOf_row (u : Fin 512) (k : Fin 4) (j : Fin 6) (f : Fin 512) (hn : expertOf i u = firstE c + BitVec.ofNat 32 k.val)
    (hm : rk (expertOf i) u = j.val + 1) (h : 6 * k.val + j.val < 32) :
    ownOf c x i w (ix3 (⟨c.val, c.isLt⟩ : Fin 16) ⟨6 * k.val + j.val, h⟩ f) = prod x w u k f := by
  have hj := j.isLt
  have hd : (6 * k.val + j.val) / 6 = k.val := by omega
  have hr : (6 * k.val + j.val) % 6 = j.val := by omega
  have hn' : expertOf i u = firstE c + BitVec.ofNat 32 ((6 * k.val + j.val) / 6) := by rw [hd]; exact hn
  have hm' : rk (expertOf i) u = (6 * k.val + j.val) % 6 + 1 := by rw [hr]; exact hm
  unfold ownOf own1
  match k with
  | 0 =>
    rw [put_row_off _ _ 18 _ _ (k0_off4_eq c) _ _ _ (by left; show 6 * 0 + j.val < 18; omega), put_row_off _ _ 12 _ _ (k0_off3_eq c) _ _ _ (by left; show 6 * 0 + j.val < 12; omega),
      put_row_off _ _ 6 _ _ (k0_off2_eq c) _ _ _ (by left; show 6 * 0 + j.val < 6; omega)]
    exact (put_row _ _ 0 _ _ (k0_off1_eq c) _ j f h).trans (rows0_apply c x i w hi u j f hn' hm')
  | 1 =>
    rw [put_row_off _ _ 18 _ _ (k0_off4_eq c) _ _ _ (by left; show 6 * 1 + j.val < 18; omega), put_row_off _ _ 12 _ _ (k0_off3_eq c) _ _ _ (by left; show 6 * 1 + j.val < 12; omega)]
    exact (put_row _ _ 6 _ _ (k0_off2_eq c) _ j f h).trans (rows1_apply c x i w hi u j f hn' hm')
  | 2 =>
    rw [put_row_off _ _ 18 _ _ (k0_off4_eq c) _ _ _ (by left; show 6 * 2 + j.val < 18; omega)]
    exact (put_row _ _ 12 _ _ (k0_off3_eq c) _ j f h).trans (rows2_apply c x i w hi u j f hn' hm')
  | 3 => exact (put_row _ _ 18 _ _ (k0_off4_eq c) _ j f h).trans (rows3_apply c x i w hi u j f hn' hm')

end Routed

end Cert.Exchange
-- ==== Proof.Result.lean ====
/-
# 01_k: one device's result block

Row `a` of device `c`'s block is, for token `32c+a`, its row of the receive buffer if its rank is at most six, else zero.
-/
module

public import proofs.«01_k».proof.Proof.Rows

@[expose] public section

noncomputable section

namespace Cert.Exchange

open Cert.KernelIdeal Cert.KernelIdeal.Gen
open Idealize.ShloMosaic
open Idealize.ShloMosaic.WordCmp

/-- The word of a token's row in the receive buffer, from its expert's number `n` and its rank `q`. -/
def slotW (n q : BitVec 32) : BitVec 32 :=
  IntOp.subi
    (IntOp.addi
      (IntOp.addi
        (IntOp.muli
          (Scalar.select
            (IntOp.andi
              (IntOp.cmpi CmpIPredicate.ne
                (IntOp.subi (BitVec.setWidth 32 (IntOp.cmpi CmpIPredicate.sgt n 0#32)) (BitVec.setWidth 32 (IntOp.cmpi CmpIPredicate.slt n 0#32)))
                (Scalar.subi (Scalar.extui (Scalar.cmpi CmpIPredicate.sgt 4#32 0#32)) (Scalar.extui (Scalar.cmpi CmpIPredicate.slt 4#32 0#32))))
              (IntOp.cmpi CmpIPredicate.ne (IntOp.remsi ArithUnit.vector n 4#32) 0#32))
            (IntOp.subi (IntOp.divsi ArithUnit.vector n 4#32) 1#32)
            (IntOp.divsi ArithUnit.vector n 4#32))
          32#32)
        (IntOp.muli
          (Scalar.select
            (IntOp.andi
              (IntOp.xori
                (IntOp.cmpi CmpIPredicate.slt (IntOp.remsi ArithUnit.vector n (Scalar.select (Scalar.cmpi CmpIPredicate.eq 4#32 0#32) 1#32 4#32)) 0#32)
                (Scalar.cmpi CmpIPredicate.slt (Scalar.select (Scalar.cmpi CmpIPredicate.eq 4#32 0#32) 1#32 4#32) 0#32))
              (IntOp.cmpi CmpIPredicate.ne (IntOp.remsi ArithUnit.vector n (Scalar.select (Scalar.cmpi CmpIPredicate.eq 4#32 0#32) 1#32 4#32)) 0#32))
            (IntOp.addi (IntOp.remsi ArithUnit.vector n (Scalar.select (Scalar.cmpi CmpIPredicate.eq 4#32 0#32) 1#32 4#32))
              (Scalar.select (Scalar.cmpi CmpIPredicate.eq 4#32 0#32) 1#32 4#32))
            (IntOp.remsi ArithUnit.vector n (Scalar.select (Scalar.cmpi CmpIPredicate.eq 4#32 0#32) 1#32 4#32)))
          6#32))
      q)
    1#32

/-- For an expert below 64 and a rank of one to six the word is the row's number. -/
theorem slotW_eq (n : Fin 64) (q : Fin 6) :
    slotW (BitVec.ofNat 32 n.val) (BitVec.ofNat 32 (q.val + 1)) = BitVec.ofNat 32 (n.val / 4 * 32 + (6 * (n.val % 4) + q.val)) := by
  revert n q; decide +kernel

variable (c : Dev nD) (i : IBuf Ideal)

/-- The token of row `a` of device `c`'s block. -/
def tok (c : Dev nD) (a : Fin 32) : Fin 512 := ⟨32 * c.val + a.val, by have h : c.val < 16 := c.isLt; omega⟩

theorem rRect_idx (a : Fin 32) : ((rRect c).toLoadRect.idx (ix2 a 0) : S512x1.Idx) = ix2 (tok c a) 0 := by
  funext b; refine Fin.ext ?_
  show k0_off37 c b + 1 * ((ix2 a 0 : S32x1.Idx) b).val = ((ix2 (tok c a) 0 : S512x1.Idx) b).val
  rw [k0_off37_eq]
  fin_cases b
  · show 32 * c.val + 1 * a.val = 32 * c.val + a.val
    omega
  · rfl

theorem iAt_apply (a : Fin 32) : iAt c i (ix2 a 0) = expertOf i (tok c a) := congrArg i (rRect_idx c a)
theorem rAt_apply (r : RBuf Ideal) (a : Fin 32) : rAt c r (ix2 a 0) = r (ix2 (tok c a) 0) := congrArg r (rRect_idx c a)

/-- The result as a sum over the rows of the receive buffer. -/
theorem outOf_sum (g : PBuf Ideal) (a : Fin 32) (f : Fin 512) :
    @Eq EReal (outOf c i g (ix2 a f)) (∑ s : Fin 512,
      (if BitVec.ofNat 32 s.val = slotW (expertOf i (tok c a)) (rankBuf (F := Ideal) i (ix2 (tok c a) 0))
          ∧ IntOp.cmpi .sle (rankBuf (F := Ideal) i (ix2 (tok c a) 0)) 6#32 = 1#1 then (1 : EReal) else 0)
        * g (ix3 (⟨s.val / 32, by omega⟩ : Fin 16) (⟨s.val % 32, by omega⟩ : Fin 32) f)) := by
  rw [← iAt_apply, ← rAt_apply c (rankBuf (F := Ideal) i)]
  unfold slotW
  pointwise [outOf, k0_pay20, k0_pay19, k0_pay18, k0_pay17, k0_pay16, k0_pay15, k0_pay14]
  simp only [sitofp_bit, and_bit, eq_bit]

/-- The number of a device's expert `k`, as the kernel computes it. -/
theorem firstE_add : ∀ (p : Dev nD) (k : Fin 4), firstE p + BitVec.ofNat 32 k.val = BitVec.ofNat 32 (4 * p.val + k.val) := by decide +kernel

variable (hi : ∀ t, (expertOf i t).toNat < 64)
include hi

/-- A token of rank above six has a zero row. -/
theorem outOf_dropped (g : PBuf Ideal) (a : Fin 32) (f : Fin 512) (h : 6 < rk (expertOf i) (tok c a)) : @Eq EReal (outOf c i g (ix2 a f)) 0 := by
  rw [outOf_sum]
  refine Finset.sum_eq_zero fun s _ => ?_
  rw [rankBuf_apply i hi, if_neg, zero_mul]
  rintro ⟨-, h'⟩
  have := (sle_bit (by have := rk_le (expertOf i) (tok c a); omega : rk (expertOf i) (tok c a) < 513) (by norm_num : 6 < 513)).1 h'
  omega

/-- A token of rank at most six has its row of the receive buffer. -/
theorem outOf_kept (g : PBuf Ideal) (a : Fin 32) (f : Fin 512) (n : Fin 64) (q : Fin 6) (hn : expertOf i (tok c a) = BitVec.ofNat 32 n.val)
    (hq : rk (expertOf i) (tok c a) = q.val + 1) :
    @Eq EReal (outOf c i g (ix2 a f)) (g (ix3 (⟨n.val / 4, by omega⟩ : Fin 16) (⟨6 * (n.val % 4) + q.val, by omega⟩ : Fin 32) f)) := by
  have hl : n.val / 4 * 32 + (6 * (n.val % 4) + q.val) < 512 := by omega
  rw [outOf_sum, rankBuf_apply i hi, hn, hq, slotW_eq]
  have h6 : IntOp.cmpi .sle (BitVec.ofNat 32 (q.val + 1)) 6#32 = 1#1 := (sle_bit (by omega) (by norm_num : 6 < 513)).2 (by omega)
  rw [Finset.sum_eq_single (⟨n.val / 4 * 32 + (6 * (n.val % 4) + q.val), hl⟩ : Fin 512) ?_ (fun h => absurd (Finset.mem_univ _) h)]
  · rw [if_pos ⟨rfl, h6⟩, one_mul]
    congr 2
    · exact Fin.ext (show (n.val / 4 * 32 + (6 * (n.val % 4) + q.val)) / 32 = n.val / 4 by omega)
    · exact Fin.ext (show (n.val / 4 * 32 + (6 * (n.val % 4) + q.val)) % 32 = 6 * (n.val % 4) + q.val by omega)
  · intro s _ hs
    rw [if_neg, zero_mul]
    rintro ⟨h, -⟩
    refine hs (Fin.ext ?_)
    have := congrArg BitVec.toNat h
    rwa [BitVec.toNat_ofNat, BitVec.toNat_ofNat, Nat.mod_eq_of_lt (by omega), Nat.mod_eq_of_lt (by omega)] at this

/-- The whole result block, where every device holds the same tokens `x` and routing `i`, and device `p` weights `w p`: a
    token of rank at most six has its product with its expert's weights, any other zero. -/
theorem outOf_gath (x : XBuf Ideal) (w : Dev nD → WBuf Ideal) (a : Fin 32) (f : Fin 512) :
    @Eq EReal (outOf c i (gath fun p => ownOf p x i (w p)) (ix2 a f))
      (if rk (expertOf i) (tok c a) ≤ 6 then
          prod x (w ⟨(expertOf i (tok c a)).toNat / 4, by have := hi (tok c a); show _ < 16; omega⟩) (tok c a)
            ⟨(expertOf i (tok c a)).toNat % 4, Nat.mod_lt _ (by norm_num)⟩ f
        else 0) := by
  split
  · rename_i h
    have hp := rk_pos (expertOf i) (tok c a)
    have hlt := hi (tok c a)
    have hn : expertOf i (tok c a) = BitVec.ofNat 32 (⟨(expertOf i (tok c a)).toNat, hlt⟩ : Fin 64).val := by simp
    have hq : rk (expertOf i) (tok c a) = (⟨rk (expertOf i) (tok c a) - 1, by omega⟩ : Fin 6).val + 1 := by show _ = _ - 1 + 1; omega
    rw [outOf_kept c i hi _ a f _ _ hn hq]
    refine (gath_slot _ (p := (⟨(expertOf i (tok c a)).toNat / 4, by show _ < 16; omega⟩ : Dev nD)) (mem_slotSet.mpr ⟨rfl, ?_⟩)).trans ?_
    · show 6 * ((expertOf i (tok c a)).toNat % 4) + (rk (expertOf i) (tok c a) - 1) < 24
      omega
    · refine ownOf_row (⟨(expertOf i (tok c a)).toNat / 4, by show _ < 16; omega⟩ : Dev nD) x i _ hi (tok c a)
        ⟨(expertOf i (tok c a)).toNat % 4, Nat.mod_lt _ (by norm_num)⟩ ⟨rk (expertOf i) (tok c a) - 1, by omega⟩ f ?_ hq _
      rw [firstE_add]
      refine hn.trans (congrArg _ ?_)
      show (expertOf i (tok c a)).toNat = 4 * ((expertOf i (tok c a)).toNat / 4) + (expertOf i (tok c a)).toNat % 4
      omega
  · exact outOf_dropped c i hi _ a f (by omega)

end Cert.Exchange
-- ==== Proof.Reference.lean ====
/-
# 01_k: what the reference computes
-/
module

public import proofs.«01_k».proof.Proof.Gen.ReferenceIdeal.Run
public import proofs.«01_k».proof.Proof.Rank
public import Idealize.ShloMosaic.Lib.IndicatorCount

@[expose] public section

noncomputable section

namespace Cert.Exchange

open Cert.ReferenceIdeal Cert.ReferenceIdeal.Gen
open Idealize.ShloMosaic
open Idealize.ShloMosaic.WordCmp

variable (x : FVec Ideal S512x256 .f32) (i : IVec S512x1 32) (w : FVec Ideal S64x256x512 .f32)

/-- The routing as a vector. -/
def refE : IVec S512 32 := shapeCast S512 i shapeCasts_S512x1_S512

/-- The number of earlier tokens of each token's expert. -/
def refCount : IVec S512 32 :=
  Host.reduce IntOp.addi (extui 32 (andi (cmpi .eq (broadcastInDim S512x512 ![0, 1] bcast_S512x1_S512x512_0_1 (broadcastInDim S512x1 ![0] bcast_S512_S512x1_0 (refE i)))
      (broadcastInDim S512x512 ![0, 1] bcast_S1x512_S512x512_0_1 (broadcastInDim S1x512 ![1] bcast_S512_S1x512_1 (refE i))))
    (cmpi .slt (iotaInDim S512x512 32 1) (iotaInDim S512x512 32 0))) natLt_1_32) (constantI S_ 32 0#32) reducesTo_S512x512_S512_d1 h_S_

/-- Each token's expert's weights. -/
def refW : FVec Ideal S512x256x512 .f32 :=
  Host.gather gather_S64x256x512_S512x1_S512x256x512_12_0_n_n_0_1_1256512 w (broadcastInDim S512x1 ![0] bcast_S512_S512x1_0
    (select (cmpi .slt (refE i) (broadcastInDim S512 ![] bcast_S_S512 (constantI S_ 32 0#32)))
      (addi (refE i) (broadcastInDim S512 ![] bcast_S_S512 (constantI S_ 32 64#32))) (refE i)))

/-- The reference's result. -/
def refOut : FVec Ideal S512x512 .f32 :=
  select (broadcastInDim S512x512 ![0, 1] bcast_S512x1_S512x512_0_1 (cmpi .slt (broadcastInDim S512x1 ![0] bcast_S512_S512x1_0 (refCount i))
      (broadcastInDim S512x1 ![] bcast_S_S512x1 (constantI S_ 32 6#32))))
    (Host.dotGeneral dot_S512x256_S512x256x512_S512x512_1_1_n_2_0_0 none x (refW i w))
    (broadcastInDim S512x512 ![] bcast_S_S512x512 (id (constant S_ .f32 0x00000000#32)))

theorem refE_apply (t : Fin 512) : refE i (ix1 t) = i (ix2 t 0) := by
  pointwise [refE]

theorem slt_bit {a b : ℕ} (ha : a < 512) (hb : b < 512) : IntOp.cmpi .slt (BitVec.ofNat 32 a) (BitVec.ofNat 32 b) = 1#1 ↔ a < b := by
  rw [cmpi_slt_ofNat (by omega) (by omega), ofBool_decide_eq_one_iff]

/-- The count, as a number: how many earlier tokens go to token `t`'s expert. -/
theorem refCount_apply (t : Fin 512) :
    refCount i (ix1 t) = BitVec.ofNat 32 (Finset.univ.filter fun t' : Fin 512 => t' < t ∧ i (ix2 t' 0) = i (ix2 t 0)).card := by
  pointwise [refCount]
  rw [IndicatorCount.fold_addi_setWidth_eq_card]
  congr 2
  ext t'
  simp only [Finset.mem_filter, Finset.mem_univ, true_and, refE_apply, and_bit, eq_bit, slt_bit (Fin.isLt _) (Fin.isLt _)]
  exact ⟨fun h => ⟨h.2, h.1.symm⟩, fun h => ⟨h.2.symm, h.1⟩⟩

abbrev dims : GatherDims S64x256x512 S512x1 S512x256x512 := gather_S64x256x512_S512x1_S512x256x512_12_0_n_n_0_1_1256512

/-- Taking an expert's weights by a number in range. -/
theorem gather_apply (idx : IVec S512x1 32) (t : Fin 512) (d : Fin 256) (f : Fin 512) (n : Fin 64) (h : idx (ix2 t 0) = BitVec.ofNat 32 n.val) :
    Host.gather dims w idx (ix3 t d f) = w (ix3 n d f) := by
  refine congrArg w ?_
  funext a
  refine Fin.ext ?_
  show dims.start (ix3 t d f) idx a + dims.batchCoord (ix3 t d f) a + dims.offCoord (ix3 t d f) a = _
  rw [GatherDims.batchCoord_eq_zero _ _ _ (fun h => by simp [gather_S64x256x512_S512x1_S512x256x512_12_0_n_n_0_1_1256512] at h)]
  have hlt := n.isLt
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ dims.startIndexMap from List.mem_singleton.mpr rfl)]
    have hsi : dims.siIdx (ix3 t d f) ⟨List.idxOf (0 : Fin 3) dims.startIndexMap,
        List.idxOf_lt_length_iff.2 (List.mem_singleton.mpr rfl)⟩ = ix2 t 0 := by
      funext b; refine Fin.ext ?_
      match b with
      | ⟨0, _⟩ => rfl
      | ⟨1, _⟩ => rfl
    rw [hsi, h, toInt_ofNat_of_lt (by omega)]
    show min (Int.toNat (n.val : ℤ)) 63 + 0 + 0 = n.val
    omega
  · unfold GatherDims.start
    rw [dif_neg (show (1 : Fin 3) ∉ dims.startIndexMap from by decide)]
    exact Nat.zero_add _
  · unfold GatherDims.start
    rw [dif_neg (show (2 : Fin 3) ∉ dims.startIndexMap from by decide)]
    exact Nat.zero_add _

theorem refW_apply (hi : ∀ t : Fin 512, (i (ix2 t 0)).toNat < 64) (t : Fin 512) (d : Fin 256) (f : Fin 512) :
    refW i w (ix3 t d f) = w (ix3 ⟨(i (ix2 t 0)).toNat, hi t⟩ d f) := by
  unfold refW
  refine gather_apply w _ t d f _ ?_
  pointwise []
  rw [refE_apply]
  have h0 : IntOp.cmpi .slt (i (ix2 t 0)) 0#32 = 0#1 := by
    have hz : (i (ix2 t 0)) = BitVec.ofNat 32 (i (ix2 t 0)).toNat := by simp
    rw [hz, cmpi_slt_ofNat (by have := hi t; omega) (by norm_num), ofBool_decide_eq_zero_iff]
    omega
  rw [h0]
  show i (ix2 t 0) = _
  simp

/-- The reference at token `t`, feature `f`. -/
theorem refOut_apply (hi : ∀ t : Fin 512, (i (ix2 t 0)).toNat < 64) (t : Fin 512) (f : Fin 512) :
    refOut x i w (ix2 t f) = if rk (fun t => i (ix2 t 0)) t ≤ 6 then
      ∑ d : Fin 256, x (ix2 t d) * w (ix3 ⟨(i (ix2 t 0)).toNat, hi t⟩ d f) else 0 := by
  have hc : ((Finset.univ.filter fun t' : Fin 512 => t' < t ∧ i (ix2 t' 0) = i (ix2 t 0)).card) + 1 = rk (fun t => i (ix2 t 0)) t := by
    unfold rk
    rw [← Finset.card_insert_of_notMem (a := t) (by simp)]
    congr 1
    ext t'
    simp only [Finset.mem_insert, Finset.mem_filter, Finset.mem_univ, true_and]
    constructor
    · rintro (rfl | ⟨h, h'⟩)
      · exact ⟨le_rfl, rfl⟩
      · exact ⟨h.le, h'⟩
    · rintro ⟨h, h'⟩
      exact h.eq_or_lt.imp id fun h => ⟨h, h'⟩
  have hle := rk_le (fun t => i (ix2 t 0)) t
  pointwise [refOut]
  rw [refCount_apply]
  have hs : ∀ (b : BitVec 1) (y z : EReal), Scalar.select b y z = if b = 1#1 then y else z := fun _ _ _ => rfl
  rw [hs]
  refine if_congr ?_ (Finset.sum_congr rfl fun d _ => by rw [refW_apply i w hi]) Ideal.ofBits_zero_f32
  rw [slt_bit (by omega) (by norm_num)]
  omega

end Cert.Exchange
-- ==== Proof.Equation.lean ====
/-
# 01_k: the kernel's result against the reference's

Device `c`'s result block is block `c` of the reference's result, where every token's expert is one of the 64.
-/
module

public import proofs.«01_k».proof.Proof.Result
public import proofs.«01_k».proof.Proof.Reference
public import proofs.«01_k».proof.Proof.Run
public import proofs.«01_k».proof.Pre_routed_KernelIdeal

@[expose] public section

noncomputable section

namespace Cert.Exchange

open Cert.KernelIdeal Cert.KernelIdeal.Gen
open Idealize.ShloMosaic
open Idealize.ShloMosaic.TcCoe
open Idealize.ShloMosaic.WordCmp

/-- Row `a` of block `c` is row `32c+a` of the whole. -/
theorem block_out (c : Fin 16) (v : (⟨2, ![512, 512]⟩ : Shape).Idx → EReal) (a : Fin 32) (f : Fin 512) :
    Layout.block ⟨2, ![32, 512]⟩ ⟨2, ![512, 512]⟩ 0 16 c v (by decide) (ix2 a f) = v (ix2 (tok c a) f) := by
  refine congrArg v ?_
  funext b; refine Fin.ext ?_
  fin_cases b
  · show c.val * 32 + a.val = 32 * c.val + a.val
    omega
  · rfl

/-- Expert `k` of block `p` is expert `4p+k` of the whole. -/
theorem block_w (p : Fin 16) (W : (⟨3, ![64, 256, 512]⟩ : Shape).Idx → EReal) (k : Fin 4) (d : Fin 256) (f : Fin 512) :
    Layout.block ⟨3, ![4, 256, 512]⟩ ⟨3, ![64, 256, 512]⟩ 0 16 p W (by decide) (ix3 k d f) = W (ix3 ⟨4 * p.val + k.val, by omega⟩ d f) := by
  refine congrArg W ?_
  funext b; refine Fin.ext ?_
  fin_cases b
  · show p.val * 4 + k.val = 4 * p.val + k.val
    omega
  · rfl
  · rfl

/-- The equation. -/
theorem out_eq (x : XBuf Ideal) (i : IBuf Ideal) (W : (⟨3, ![64, 256, 512]⟩ : Shape).Idx → EReal) (hi : ∀ t, (expertOf i t).toNat < 64) (c : Dev nD) :
    outOf c i (gath fun p => ownOf p x i (Layout.block ⟨3, ![4, 256, 512]⟩ ⟨3, ![64, 256, 512]⟩ 0 16 p W (by decide)))
      = Layout.block ⟨2, ![32, 512]⟩ ⟨2, ![512, 512]⟩ 0 16 c (refOut x i W) (by decide) := by
  funext j
  obtain ⟨a, f, rfl⟩ : ∃ (a : Fin 32) (f : Fin 512), j = ix2 a f := ⟨j 0, j 1, eq_ix2 j⟩
  rw [block_out]
  show @Eq EReal _ _
  refine Eq.trans (b := (_ : EReal)) (outOf_gath c i hi x _ a f) (Eq.trans ?_ (refOut_apply x i W hi (tok c a) f).symm)
  refine if_congr Iff.rfl (Finset.sum_congr rfl fun d _ => ?_) rfl
  refine congrArg (HMul.hMul (α := EReal) (β := EReal) (x (ix2 (tok c a) d))) ((block_w _ _ _ _ _).trans (congrArg (fun n => W (ix3 n d f)) (Fin.ext ?_)))
  show 4 * ((expertOf i (tok c a)).toNat / 4) + (expertOf i (tok c a)).toNat % 4 = (expertOf i (tok c a)).toNat
  omega

/-- Where a fold of bits by `and` is one, each bit is. -/
theorem fold_and {ι : Type} (p : ι → BitVec 1) (S : Finset ι) (h : S.fold IntOp.andi (1#1) p = 1#1) : ∀ k ∈ S, p k = 1#1 := by
  classical
  induction S using Finset.induction_on with
  | empty => exact fun k hk => absurd hk (Finset.notMem_empty k)
  | insert a S ha ih =>
    rw [Finset.fold_insert ha, and_bit] at h
    intro k hk
    rcases Finset.mem_insert.1 hk with rfl | hk
    · exact h.1
    · exact ih h.2 k hk

/-- What the precondition says of the routing, token by token. -/
theorem routed_iff [Cert.Pre_routed_KernelIdeal.Facts] (a0 a1 i a3) (h : Cert.Pre_routed_KernelIdeal.fn (F := Ideal) a0 a1 i a3 = fun _ => 1#1) (t : Fin 512) :
    (i (ix2 t 0)).toNat < 64 := by
  have h' := congrFun h ix0
  pointwise [Cert.Pre_routed_KernelIdeal.fn] at h'
  have ht := fold_and _ _ h' (t, 0) (Finset.mem_univ _)
  rw [and_bit, cmpi_sge_eq, cmpi_slt_eq, ofBool_decide_eq_one_iff, ofBool_decide_eq_one_iff] at ht
  have h0 : (0 : ℤ) ≤ (i (ix2 t 0)).toInt := ht.1
  have h1 : (i (ix2 t 0)).toInt < 64 := ht.2
  rw [BitVec.toInt_eq_toNat_cond] at h0 h1
  have hl := (i (ix2 t 0)).isLt
  split at h0 <;> omega

/-! ## The staged inputs and the result array -/

variable {F : FTy → Type} [FloatOps F] (m : (ℓ : Loc nD τ sig) → Buf (Elt F) ℓ) (ρ : Dev nD → PrngReg) (c : Dev nD)

theorem stgX_eq : stgX m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem stgI_eq : stgI m ρ c = m ((c : Thread nD τ).loc main_arg2) := by
  have hz : (fun a => (win0_1.index (0 : Fin 1)) a * main_arg2.ty.shape.size a) = fun _ => 0 := funext fun a => by fin_cases a <;> decide
  exact Memref.read_access_unit_zero (Elt F) main_arg2 hz (fun a => by fin_cases a <;> decide) _
theorem stgW_eq : stgW m ρ c = m ((c : Thread nD τ).loc main_arg3) := by
  have hz : (fun a => (win0_2.index (0 : Fin 1)) a * main_arg3.ty.shape.size a) = fun _ => 0 := funext fun a => by fin_cases a <;> decide
  exact Memref.read_access_unit_zero (Elt F) main_arg3 hz (fun a => by fin_cases a <;> decide) _

/-- The result array ends holding the result block. -/
theorem finalA_out : finalA m ρ c (3 : Fin 4) = outAt m ρ c := by
  have ho : (win0_3.blk (0 : Fin 1)).view.read (Elt F) (finalA m ρ c (3 : Fin 4)) = outAt m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  have hz : (fun a => (win0_3.index (0 : Fin 1)) a * main_v1.ty.shape.size a) = fun _ => 0 := funext fun a => by fin_cases a <;> decide
  exact (Memref.read_access_unit_zero (Elt F) main_v1 hz (fun a => by fin_cases a <;> decide) _).symm.trans ho

end Cert.Exchange
-- ==== Proof.lean ====
/-
# 01_k: the claim

The frames from the run of the kernel, the frames of the reference from its run, and the equation of the two results.
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem Cert.Exchange

instance : Cert.Pre_routed_KernelIdeal.Facts where
  bcast_S_S512x1 := by decide
  reducesTo_S512x1_S_d0_1 := by decide
  h_S_ := by decide

instance : Cert.Pre_routed_ReferenceIdeal.Facts where
  bcast_S_S512x1 := by decide
  reducesTo_S512x1_S_d0_1 := by decide
  h_S_ := by decide

section Frames

variable {F : FTy → Type} [FloatOps F]

/-- What a run leaves in the arguments: what they held. -/
theorem kept (m : (ℓ : Loc Cert.KernelIdeal.nD Cert.KernelIdeal.τ Cert.KernelIdeal.sig) → Buf (Elt F) ℓ) (ρ : Dev Cert.KernelIdeal.nD → PrngReg)
    {r : PUnit × MemSt Cert.KernelIdeal.nD Cert.KernelIdeal.τ Cert.KernelIdeal.sig (Elt F)} (h : QC m ρ r) (c : Dev Cert.KernelIdeal.nD) :
    r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3) :=
  ⟨(h.1 c (0 : Fin 4)).trans (finalA_in0 m ρ c), h.2 c, (h.1 c (1 : Fin 4)).trans (finalA_in1 m ρ c), (h.1 c (2 : Fin 4)).trans (finalA_in2 m ρ c)⟩

end Frames

theorem frame_kernelIdeal : Cert.quiescent_KernelIdeal := fun m ρ _ =>
  (θ_run Cert.KernelIdeal.defs _ _).mono (fun _ h => ⟨fun c => kept m ρ h.1 c, h.2⟩) (run_main (F := Ideal) m ρ)

/-- The two printed programs have the same kernel body. -/
theorem defs_eq : Cert.Kernel.defs (F := Bits) = Cert.KernelIdeal.defs (F := Bits) :=
  congrArg (Pipeline.defs Cert.KernelIdeal.pcfgs) (congrArg Defs.onTc (funext fun l => by
    match l with
    | ⟨0, _⟩ => rfl
    | ⟨n + 1, h⟩ => exact absurd h (Nat.not_lt.2 (Nat.le_add_left _ _))))

theorem frame_kernel : Cert.quiescent_Kernel := fun m ρ _ => by
  rw [defs_eq]
  exact (θ_run Cert.KernelIdeal.defs _ _).mono (fun _ h => ⟨fun c => kept (F := Bits) m ρ h.1 c, h.2⟩) (run_main (F := Bits) m ρ)

theorem frame_kernelIdeal_routed : Cert.quiescent_KernelIdeal_pre_routed_KernelIdeal := fun m ρ _ => frame_kernelIdeal m ρ trivial

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_routed : Cert.quiescent_ReferenceIdeal_pre_routed_ReferenceIdeal := fun m ρ _ => frame_reference m ρ trivial

theorem preserves : Cert.preserves_Kernel_KernelIdeal := trivial

theorem algebraic : Cert.algebraic_KernelIdeal_ReferenceIdeal_pre_routed_KernelIdeal := by
  intro m g m' g' hpre hin
  refine ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun r h c => ⟨?_, kept m g h.1 c⟩) (run_main (F := Ideal) m g),
    (θ_run Cert.ReferenceIdeal.defs _ _).mono (fun r h => ⟨(h 0).1, (h 0).2⟩) (Cert.ReferenceIdeal.Value.run (F := Ideal) m' g')⟩
  refine (h.1.1 c (3 : Fin 4)).trans ((finalA_out m g c).trans ?_)
  have hi : ∀ t, (expertOf (m' (((0 : Dev Cert.ReferenceIdeal.nD).tc : Thread Cert.ReferenceIdeal.nD Cert.ReferenceIdeal.τ).loc Cert.ReferenceIdeal.main_arg2)) t).toNat < 64 := by
    rw [← (hin c).2.2.1]
    exact routed_iff _ _ _ _ (hpre c)
  refine Eq.trans ?_ (out_eq _ _ _ hi c)
  unfold outAt Cert.Exchange.owns
  simp only [stgX_eq, stgI_eq, stgW_eq, (hin _).1, (hin _).2.2.1, (hin _).2.2.2]

theorem claim : Cert.Claim :=
  ⟨Cert.Kernel.Gen.facts, Cert.KernelIdeal.Gen.facts, Cert.ReferenceIdeal.Gen.facts, inferInstance, inferInstance,
    frame_kernel, frame_kernelIdeal, frame_kernelIdeal_routed, frame_reference, frame_reference_routed, preserves, algebraic⟩

end Cert.Proof

end
